-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_entries_without_ties [hKernelIdeal : Cert.KernelIdeal.Facts] [hReferenceIdeal : Cert.ReferenceIdeal.Facts] [hOn_entries_without_ties : Cert.On_entries_without_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 2] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_entries_without_ties.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_entries_without_ties.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_entries_without_ties : Cert.On_entries_without_ties.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_entries_without_ties (hKernelIdeal := hKernelIdeal) (hReferenceIdeal := hReferenceIdeal) (hOn_entries_without_ties := hOn_entries_without_ties)
-- ==== On_entries_without_ties.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x7 : Shape := ⟨2, ![256, 7]⟩
abbrev S256x7x8 : Shape := ⟨3, ![256, 7, 8]⟩
abbrev S256x7x1 : Shape := ⟨3, ![256, 7, 1]⟩

class Facts : Prop where
  slices_S256x2048_S256x8_0_0 : S256x2048.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x7_0_0 : S256x8.Slices ![0, 0] S256x7
  slices_S256x8_S256x7_0_1 : S256x8.Slices ![0, 1] S256x7
  bcast_S256x7_S256x7x1_0_1 : S256x7.BroadcastsInDim S256x7x1 (![0, 1] : Fin 2 → Fin S256x7x1.rank)
  bcast_S256x7x1_S256x7x8_0_1_2 : S256x7x1.BroadcastsInDim S256x7x8 (![0, 1, 2] : Fin 3 → Fin S256x7x8.rank)
  reducesTo_S256x7x8_S256x8_d1 : S256x7x8.ReducesTo [1] S256x8
  gather_S256x2048_S256x8x1_S256x8_n_1_0_0_1_2_11_wf : GatherDims.WF S256x2048 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x2048_S256x8x1_S256x8_n_1_0_0_1_2_11 : GatherDims S256x2048 S256x8x1 S256x8 where
  offsetDims := []
  collapsedSliceDims := [1]
  operandBatchingDims := [0]
  startIndicesBatchingDims := [0]
  startIndexMap := [1]
  indexVectorDim := 2
  sliceSizes := ![1, 1]
  wf := gather_S256x2048_S256x8x1_S256x8_n_1_0_0_1_2_11_wf

def fn_argsort {F : FTy → Type} [FloatOps F] (arg0 : FVec F S256x2048 .f32) : IVec S256x2048 32 :=
  let v0 : IVec S256x2048 32 := iotaInDim S256x2048 32 1
  let v1_0 : FVec F S256x2048 .f32 := (fun x y => (Host.sort2 S256x2048 1 comparator_f32_i32_d1 x y).1) arg0 v0
  let v1_1 : IVec S256x2048 32 := (fun x y => (Host.sort2 S256x2048 1 comparator_f32_i32_d1 x y).2) arg0 v0
  v1_1

def fn_take_along_axis {F : FTy → Type} [FloatOps F] (arg0 : FVec F S256x2048 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 2048#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 2047#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x2048_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn {F : FTy → Type} [FloatOps F] (main_arg0 : FVec F S256x2048 .f32) : IVec S256x8 1 :=
  let main_v0 : FVec F S256x2048 .f32 := Host.negf main_arg0
  let main_v1 : IVec S256x2048 32 := fn_argsort (F := F) main_v0
  let main_v2 : IVec S256x8 32 := (extractStridedSlice S256x8 ![0, 0] · slices_S256x2048_S256x8_0_0) main_v1
  let main_v3 : FVec F S256x8 .f32 := fn_take_along_axis (F := F) main_arg0 main_v2
  let main_v4 : FVec F S256x7 .f32 := (extractStridedSlice S256x7 ![0, 0] · slices_S256x8_S256x7_0_0) main_v3
  let main_v5 : FVec F S256x7 .f32 := (extractStridedSlice S256x7 ![0, 1] · slices_S256x8_S256x7_0_1) main_v3
  let main_v6 : IVec S256x7 1 := cmpf .ogt main_v4 main_v5
  let main_v7 : IVec S256x7x8 32 := iotaInDim S256x7x8 32 1
  let main_v8 : IVec S256x7x8 32 := iotaInDim S256x7x8 32 2
  let main_v9 : IVec S256x7x1 1 := broadcastInDim S256x7x1 ![0, 1] bcast_S256x7_S256x7x1_0_1 main_v6
  let main_v10 : IVec S256x7x8 1 := cmpi .sge main_v7 main_v8
  let main_v11 : IVec S256x7x8 1 := broadcastInDim S256x7x8 ![0, 1, 2] bcast_S256x7x1_S256x7x8_0_1_2 main_v9
  let main_v12 : IVec S256x7x8 1 := ori main_v11 main_v10
  let main_c : IVec S_ 1 := constantI S_ 1 1#1
  let main_v13 : IVec S256x8 1 := (fun x v => Host.reduce IntOp.andi x v reducesTo_S256x7x8_S256x8_d1 h_S_) main_v12 main_c
  let main_cst : FVec F S_ .f32 := constant S_ .f32 0xFF7FFFFF#32
  let main_v14 : FVec F S256x8 .f32 := broadcastInDim S256x8 ![] bcast_S_S256x8 main_cst
  let main_v15 : IVec S256x8 1 := cmpf .ogt main_v3 main_v14
  let main_v16 : IVec S256x8 1 := andi main_v13 main_v15
  let main_cst_0 : FVec F S_ .f32 := constant S_ .f32 0xFF7FFFFF#32
  let main_v17 : FVec F S256x8 .f32 := broadcastInDim S256x8 ![] bcast_S_S256x8 main_cst_0
  let main_v18 : IVec S256x8 1 := cmpf .oeq main_v3 main_v17
  let main_v19 : IVec S256x8 1 := ori main_v16 main_v18
  main_v19
-- ==== Kernel.lean ====
abbrev S256x1024 : Shape := ⟨2, ![256, 1024]⟩
abbrev S256x8 : Shape := ⟨2, ![256, 8]⟩
abbrev S_ : Shape := ⟨0, ![]⟩
abbrev S256 : Shape := ⟨1, ![256]⟩
abbrev S256x1 : Shape := ⟨2, ![256, 1]⟩
abbrev S256x16 : Shape := ⟨2, ![256, 16]⟩

abbrev nBuf : Space → Nat
  | .hbm => 2
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S256x8, .f32⟩
  | .local _ .vmem, ⟨3, _⟩ => ⟨S256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_27 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_26 : BitVec 32 := 4#32
  let v67 : BitVec 32 := Scalar.muli v9 c4_i32_26
  let v68 : BitVec 32 := Scalar.addi c0_i32_27 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v69 : BitVec 32 := Scalar.muli v5 c2_i32_28
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v71 : BitVec 32 := Scalar.muli v8 c1_i32_29
  let v72 : BitVec 32 := Scalar.addi v70 v71
  v72.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .i32⟩
  | .hbm, ⟨3, _⟩ => ⟨S256x2048, .f32⟩
  | .hbm, ⟨4, _⟩ => ⟨S256x2048, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Protocol.lean ====
/-
# The exchange's protocol

Every device of the mesh has one partner, the device across the first mesh axis. The two hand each other their
eight largest entries per line: a device first tells its partner that its landing buffer is free (one unit on the
partner's barrier semaphore), computes its own eight, waits for the partner's unit, copies them into the partner's
landing buffer, and waits for its own copy to have left and for the partner's to have come.

This module states that agreement for the rounds library: each of a device's three semaphores (barrier, departure,
arrival) has one duty, in round 0, and the duty's payment carries a buffer.

* barrier of `c`: paid by `peer c` with one unit; carries the landing buffer of `peer c`, at any contents, and that
  `peer c` stands at round 0 of its arrival semaphore;
* departure of `c`: paid by the copy `c` starts; carries `c`'s own departure buffer back;
* arrival of `c`: paid by the copy `peer c` starts; carries `c`'s landing buffer, holding what `peer c` sent.

Everything is over arbitrary float values `F`: the kernel and its idealization have the same text.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's rounds beside the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The machine before the run: memory `m`, all counters zero, generator registers `ρ`. -/
def s₀ : MemSt nD τ sig (Elt F) := ⟨m, fun _ => 0, ρ⟩

/-! ## The partner -/

set_option backward.proofsInPublic true in
/-- The device across the first mesh axis: four places on, around eight. -/
def peer (c : Dev nD) : Dev nD := ⟨(c.val + 4) % 8, Nat.mod_lt _ (by decide)⟩

theorem peer_peer (c : Dev nD) : peer (peer c) = c := by revert c; decide

/-- Swapping partners, as a permutation of the devices. -/
def swap : Dev nD ≃ Dev nD := ⟨peer, peer, peer_peer, peer_peer⟩

theorem eq_peer_comm {c d : Dev nD} : peer d = c ↔ d = peer c :=
  ⟨fun h => by rw [← h, peer_peer], fun h => by rw [h, peer_peer]⟩

/-- The device the signal names, and the one the copy names, is the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

/-! ## Buffers and semaphores -/

abbrev inM : Memref sig .tc .vmem S256x1024 .f32 := Memref.whole cc0_stg0_0
abbrev outM : Memref sig .tc .vmem S256x8 .f32 := Memref.whole cc0_stg1_0
/-- the departure buffer (the kernel's `send_buf`) and the landing buffer (its `recv_buf`). -/
abbrev depM : Memref sig .tc .vmem S256x8 .f32 := Memref.whole cc0_scratch0
abbrev landM : Memref sig .tc .vmem S256x8 .f32 := Memref.whole cc0_scratch1

abbrev barS : Sem sig := (SemArray.scalar (sig.barrier 0 rfl) : Sems sig S_).sem
abbrev depS : DmaSems sig S_ := cc0_scratch2
abbrev arrS : DmaSems sig S_ := cc0_scratch3

abbrev barCell (c : Dev nD) : GSem nD τ sig := ((c : Thread nD τ), .reg barS)
abbrev depCell (c : Dev nD) : GSem nD τ sig := ((c : Thread nD τ), .dma depS.sem)
abbrev arrCell (c : Dev nD) : GSem nD τ sig := ((c : Thread nD τ), .dma arrS.sem)

/-- The two semaphores the kernel owns, and all three the protocol uses. -/
abbrev osem : Fin 2 → SemLoc sig := fun | 0 => .dma depS.sem | 1 => .dma arrS.sem
abbrev xsem : Fin 3 → SemLoc sig := fun | 0 => .reg barS | 1 => .dma depS.sem | 2 => .dma arrS.sem
abbrev xcell (ck : Dev nD × Fin 3) : GSem nD τ sig := ((ck.1 : Thread nD τ), xsem ck.2)

theorem dep_ne_bar : (SemLoc.dma depS.sem : SemLoc sig) ≠ .reg barS := fun h => by cases h
theorem arr_ne_bar : (SemLoc.dma arrS.sem : SemLoc sig) ≠ .reg barS := fun h => by cases h
theorem dep_ne_arr : (SemLoc.dma depS.sem : SemLoc sig) ≠ .dma arrS.sem := by decide

/-- What one copy of a `256 × 8` buffer credits a semaphore. -/
abbrev N : ℕ := (landM : Memref sig .tc .vmem S256x8 .f32).view.dmaCredit
theorem N_pos : 0 < N := View.dmaCredit_pos _ (by decide)

/-! ## Contents -/

/-- Device `c`'s block of the argument, as the pipeline stages it. -/
def xblk (c : Dev nD) : (cc0_stg0_0 : Ref sig .tc).ty.Contents (Elt F) :=
  (win0_0.blk (0 : Fin 1)).view.read (Elt F) ((s₀ m ρ).mem ((c : Thread nD τ).loc main_arg0))

/-- The kernel's first stage on a block: eight largest entries of every line, … -/
def stage1 (x : Vec F S256x1024 .f32) : FVec F S256x8 .f32 := k0_pay9 (k0_pay3 x) (k0_pay5 x) (k0_pay7 x) (k0_pay8 x)
/-- … as the departure buffer holds it, … -/
def stage1s (x : Vec F S256x1024 .f32) : FVec F S256x8 .f32 := k0_pay10 (k0_pay3 x) (k0_pay5 x) (k0_pay7 x) (k0_pay8 x)
/-- … and its second stage, on its own eight and the eight that came. -/
def stage2 (a : FVec F S256x8 .f32) (b : Vec F S256x8 .f32) : FVec F S256x8 .f32 :=
  k0_pay1 (k0_pay12 a b) (k0_pay14 a b) (k0_pay16 a b) (k0_pay18 a b) (k0_pay20 a b) (k0_pay22 a b) (k0_pay23 a b)

/-- What device `c` sends, what lands on it, and what it returns. -/
def sent (c : Dev nD) : (cc0_scratch0 : Ref sig .tc).ty.Contents (Elt F) := stage1s (xblk m ρ c)
def landed (c : Dev nD) : (cc0_scratch1 : Ref sig .tc).ty.Contents (Elt F) := stage1s (xblk m ρ (peer c))
def outAt (c : Dev nD) : (cc0_stg1_0 : Ref sig .tc).ty.Contents (Elt F) := stage2 (stage1 (xblk m ρ c)) (stage1s (xblk m ρ (peer c)))

/-- The landing buffer of `c` held in full at contents `f`; the departure buffer likewise. -/
def landPts (c : Dev nD) (f : Buf (Elt F) ((landM : Memref sig .tc .vmem S256x8 .f32).view.loc (c : Thread nD τ))) : sProp 𝕄 :=
  (landM : Memref sig .tc .vmem S256x8 .f32).view.loc (c : Thread nD τ) ↦[(landM : Memref sig .tc .vmem S256x8 .f32).view.set]{fullShare} f
def depPts (c : Dev nD) (f : Buf (Elt F) ((depM : Memref sig .tc .vmem S256x8 .f32).view.loc (c : Thread nD τ))) : sProp 𝕄 :=
  (depM : Memref sig .tc .vmem S256x8 .f32).view.loc (c : Thread nD τ) ↦[(depM : Memref sig .tc .vmem S256x8 .f32).view.set]{fullShare} f

instance landPts_storable (c : Dev nD) (f) : BI.Storable (upEmb : UEmb _ 𝕄) (landPts (F := F) c f) := by unfold landPts; infer_instance
instance depPts_storable (c : Dev nD) (f) : BI.Storable (upEmb : UEmb _ 𝕄) (depPts (F := F) c f) := by unfold depPts; infer_instance

theorem landPts_eq (c : Dev nD) (f : Buf (Elt F) ((c : Thread nD τ).loc cc0_scratch1)) :
    landPts c f = (((c : Thread nD τ).loc cc0_scratch1) ↦{fullShare} f : sProp 𝕄) := by unfold landPts; rw [View.set_whole]
theorem depPts_eq (c : Dev nD) (f : Buf (Elt F) ((c : Thread nD τ).loc cc0_scratch0)) :
    depPts c f = (((c : Thread nD τ).loc cc0_scratch0) ↦{fullShare} f : sProp 𝕄) := by unfold depPts; rw [View.set_whole]

/-- A copy of the whole departure buffer over the whole landing buffer leaves the former's contents. -/
theorem copied_eq (c : Dev nD) (fd : Buf (Elt F) ((landM : Memref sig .tc .vmem S256x8 .f32).view.loc (c : Thread nD τ))) (fs : (cc0_scratch0 : Ref sig .tc).ty.Contents (Elt F)) :
    (landM : Memref sig .tc .vmem S256x8 .f32).view.write (Elt F) fd ((depM : Memref sig .tc .vmem S256x8 .f32).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

def barPay (c : Dev nD) : sProp 𝕄 := iprop((∃ f, landPts (peer c) f) ∗ reached EX (arrCell (peer c)) 0)
def depPay (c : Dev nD) : sProp 𝕄 := depPts c (sent m ρ c)
def arrPay (c : Dev nD) : sProp 𝕄 := landPts c (landed m ρ c)

/-- The cells the protocol speaks of. -/
abbrev Used (g : GSem nD τ sig) : Prop := g.1.2 = .tc ∧ (g.2 = .reg barS ∨ g.2 = .dma depS.sem ∨ g.2 = .dma arrS.sem)

/-- One duty per cell, in round 0: a unit on a barrier, a copy's credit on the other two. -/
def plan : Rounds.Schedule (GSem nD τ sig) Unit 𝕄 where
  duties g r := if r = 0 ∧ Used g then {()} else ∅
  unitless _ := False
  amount g _ _ := if g.2 = .reg barS then 1 else N
  payload g _ _ :=
    if g.2 = .reg barS then barPay g.1.1
    else if g.2 = .dma depS.sem then depPay m ρ g.1.1
    else if g.2 = .dma arrS.sem then arrPay m ρ g.1.1
    else iprop(emp)
  amount_pos g _ _ _ := by
    split
    · exact Nat.one_pos
    · exact N_pos

instance plan_payload_storable (g : GSem nD τ sig) (r : ℕ) (d : Unit) :
    BI.Storable (upEmb : UEmb _ 𝕄) ((plan (F := F) m ρ).payload g r d) := by
  show BI.Storable upEmb (if g.2 = .reg barS then barPay g.1.1 else if g.2 = .dma depS.sem then depPay m ρ g.1.1
    else if g.2 = .dma arrS.sem then arrPay m ρ g.1.1 else iprop(emp))
  unfold barPay depPay arrPay
  (repeat' split) <;> infer_instance

section Plan
variable (c : Dev nD)

theorem used_xcell (ck : Dev nD × Fin 3) : Used (xcell ck) := by
  obtain ⟨c, k⟩ := ck
  fin_cases k
  exacts [⟨rfl, .inl rfl⟩, ⟨rfl, .inr (.inl rfl)⟩, ⟨rfl, .inr (.inr rfl)⟩]

theorem duties_used {g : GSem nD τ sig} (h : Used g) : (plan (F := F) m ρ).duties g 0 = {()} := if_pos ⟨rfl, h⟩
theorem duties_bar : (plan (F := F) m ρ).duties (barCell c) 0 = {()} := duties_used m ρ (used_xcell (c, 0))
theorem duties_dep : (plan (F := F) m ρ).duties (depCell c) 0 = {()} := duties_used m ρ (used_xcell (c, 1))
theorem duties_arr : (plan (F := F) m ρ).duties (arrCell c) 0 = {()} := duties_used m ρ (used_xcell (c, 2))
theorem duties_later (g : GSem nD τ sig) : ∀ r, 1 ≤ r → (plan (F := F) m ρ).duties g r = ∅ :=
  fun r hr => if_neg fun h => by omega

theorem amount_bar : (plan (F := F) m ρ).amount (barCell c) 0 () = 1 := by dsimp only [plan]; exact if_pos rfl
theorem amount_dep : (plan (F := F) m ρ).amount (depCell c) 0 () = N := by dsimp only [plan]; exact if_neg dep_ne_bar
theorem amount_arr : (plan (F := F) m ρ).amount (arrCell c) 0 () = N := by dsimp only [plan]; exact if_neg arr_ne_bar

/-- A used cell expects, in round 0, its one duty's amount. -/
theorem expect_used {g : GSem nD τ sig} (h : Used g) : (plan (F := F) m ρ).expect g 0 = (plan (F := F) m ρ).amount g 0 () := by
  unfold Schedule.expect Schedule.amountOf; rw [duties_used m ρ h, Finset.sum_singleton]
theorem expect_bar : (plan (F := F) m ρ).expect (barCell c) 0 = 1 := (expect_used m ρ (used_xcell (c, 0))).trans (amount_bar m ρ c)
theorem expect_dep : (plan (F := F) m ρ).expect (depCell c) 0 = N := (expect_used m ρ (used_xcell (c, 1))).trans (amount_dep m ρ c)
theorem expect_arr : (plan (F := F) m ρ).expect (arrCell c) 0 = N := (expect_used m ρ (used_xcell (c, 2))).trans (amount_arr m ρ c)

theorem payload_bar : (plan (F := F) m ρ).payload (barCell c) 0 () = barPay c := by dsimp only [plan]; exact if_pos rfl
theorem payload_dep : (plan (F := F) m ρ).payload (depCell c) 0 () = depPay m ρ c := by
  dsimp only [plan]; rw [if_neg dep_ne_bar, if_pos rfl]
theorem payload_arr : (plan (F := F) m ρ).payload (arrCell c) 0 () = arrPay m ρ c := by
  dsimp only [plan]; rw [if_neg arr_ne_bar, if_neg dep_ne_arr.symm, if_pos rfl]

/-- What a used cell's round hands over when nothing of it was taken: its one payload. -/
theorem rest_used {g : GSem nD τ sig} (h : Used g) :
    bigSep ((plan (F := F) m ρ).duties g 0 \ ∅) (fun d => (plan (F := F) m ρ).payload g 0 d) = (plan (F := F) m ρ).payload g 0 () := by
  rw [Finset.sdiff_empty, duties_used m ρ h, bigSep_singleton]

end Plan

/-! ## What a device owes, and the order of waiting -/

/-- At launch device `c` owes its partner an arrival's credit and a barrier's unit. -/
def owed₀ (c : Dev nD) : CellTallies nD τ sig Unit := tallyAt (arrCell (peer c)) () N + tallyAt (barCell (peer c)) () 1

def L (g : GSem nD τ sig) : Finset Unit := if g.1.2 = .tc then {()} else ∅
/-- Barriers stand at 1, arrivals at 2, everything else at 0: a wait is only for a cell below all those still owed. -/
def lv (g : GSem nD τ sig) (_ : Unit) : ℕ := if g.2 = .reg barS then 1 else if g.2 = .dma arrS.sem then 2 else 0

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _
theorem lv_bar (c : Dev nD) (u : Unit) : lv (barCell c) u = 1 := if_pos rfl
theorem lv_arr (c : Dev nD) (u : Unit) : lv (arrCell c) u = 2 := by unfold lv; rw [if_neg arr_ne_bar, if_pos rfl]

theorem tally_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem owed₀_pos {c : Dev nD} {g : GSem nD τ sig} {u : Unit} (h : 0 < owed₀ c g u) : g = arrCell (peer c) ∨ g = barCell (peer c) := by
  unfold owed₀ at h
  rw [Pi.add_apply, Finsupp.add_apply] at h
  rcases Nat.add_pos_iff_pos_or_pos.mp h with h | h
  · exact .inl (tally_pos h)
  · exact .inr (tally_pos h)

/-- The pipeline's own waits, on staging cells, come below all a device owes. -/
theorem mayWait_stage (c : Dev nD) (q : DmaSem sig) (hq : SemLoc.dma q ≠ .dma arrS.sem) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases owed₀_pos hg with rfl | rfl <;> exact mem_L _ _ _)
      (fun p hp => by rw [Finset.mem_singleton.mp hp]; dsimp only [lv]; rw [if_neg (fun h => by cases h), if_neg hq])
      (fun g u hg => by
        rcases owed₀_pos hg with rfl | rfl
        · rw [lv_arr]; decide
        · rw [lv_bar]; decide)
  · rw [MayWait_zero]; iintro -; iempintro

/-- At its barrier a device owes its partner's arrival only, which stands above. -/
theorem mayWait_bar (c : Dev nD) :
    (levAts L lv : sProp 𝕄) ⊢ MayWait (c : Thread nD τ) (.reg barS) () (tallyAt (arrCell (peer c)) () N) :=
  MayOwe.of_cut (L := L) (lev := lv) 1 (fun p hp => by rw [Finset.mem_singleton.mp hp]; exact mem_L _ _ _)
    (fun g u hg => by rw [tally_pos hg]; exact mem_L _ _ _)
    (fun p hp => by rw [Finset.mem_singleton.mp hp]; exact le_of_eq (lv_bar c ()))
    (fun g u hg => by rw [tally_pos hg, lv_arr]; decide)

/-! ## What the body starts from and ends with -/

/-- The cell invariants the body of device `c` opens: its own three, its partner's barrier and arrival. -/
def invs (K : Dev nD × Fin 3 → ℕ) (c : Dev nD) : sProp 𝕄 :=
  iprop(cellInv EX (plan m ρ) (K (c, 0)) (barCell c) ∗ cellInv EX (plan m ρ) (K (c, 1)) (depCell c) ∗ cellInv EX (plan m ρ) (K (c, 2)) (arrCell c)
    ∗ cellInv EX (plan m ρ) (K (peer c, 0)) (barCell (peer c)) ∗ cellInv EX (plan m ρ) (K (peer c, 2)) (arrCell (peer c)))

instance invs_persistent (K : Dev nD × Fin 3 → ℕ) (c : Dev nD) : BI.Persistent (invs m ρ K c) := by unfold invs; infer_instance

/-- The tokens of the three duties device `c` pays. -/
def payToks (c : Dev nD) : sProp 𝕄 :=
  iprop(dutyTok EX (barCell (peer c)) 0 () ∗ dutyTok EX (arrCell (peer c)) 0 () ∗ dutyTok EX (depCell c) 0 ())

/-- The protocol's state a device starts from. -/
def ghost (K : Dev nD × Fin 3 → ℕ) (c : Dev nD) : sProp 𝕄 :=
  iprop(invs m ρ K c
    ∗ (atPos EX (barCell c) 0 ∅ 0 ∗ atPos EX (depCell c) 0 ∅ 0 ∗ atPos EX (arrCell c) 0 ∅ 0)
    ∗ (reached EX (barCell (peer c)) 0 ∗ reached EX (arrCell (peer c)) 0 ∗ reached EX (depCell c) 0 ∗ reached EX (arrCell c) 0)
    ∗ payToks c)

def start (c : Dev nD) : sProp 𝕄 :=
  iprop((∃ K, ghost m ρ K c) ∗ cred (tallyAt (barCell c) () 1) ∗ cred (tallyAt (arrCell c) () N) ∗ levAts L lv)

/-- Before the kernel: that, and the two scratch buffers at whatever they hold. -/
def Φ₀ (c : Dev nD) : sProp 𝕄 := iprop(start m ρ c ∗ (∃ f, depPts c f) ∗ (∃ f, landPts c f))
/-- After it: the two buffers, and the three semaphores at zero. -/
def Φ₁ (c : Dev nD) : sProp 𝕄 :=
  iprop((depPts c (sent m ρ c) ∗ landPts c (landed m ρ c)) ∗ semVal (depCell c) 0 ∗ semVal (arrCell c) 0 ∗ semVal (barCell c) 0)

/-- The pipeline's proof data: one point, the argument's block in, the result's out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => owed₀ c
    | ⟨_ + 1, _⟩ => 0

abbrev 𝒱₀ : Variants := Variants.none

end TopK

end
-- ==== Proof.Body.lean ====
/-
# The kernel's body, run once on a symbolic device

The body executes against the protocol of `Protocol`, one rule per effect in the order of the program: signal the
partner, load the block, store its eight largest entries, wait for the partner's unit, copy to the partner, wait for
the departure, wait for the arrival, load what came, store the result.
-/
module

public import proofs.«01_k».proof.Proof.Protocol

@[expose] public section

noncomputable section

namespace TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fin_N (t : Fin cfg0.N) : t = t0_0 := fin_N0 t

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- A whole buffer owned at `X`, as its points-to. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

/-! ## Whole-buffer accesses -/

abbrev rIn : Rect S256x1024 := Rect.unit (s := S256x1024) ![0, 0] S256x1024.size inb_S256x1024_S256x1024_0_0
abbrev r8 : Rect S256x8 := Rect.unit (s := S256x8) ![0, 0] S256x8.size inb_S256x8_S256x8_0_0

theorem hz : (![0, 0] : Fin 2 → Nat) = fun _ => 0 := funext fun a => by fin_cases a <;> rfl
theorem read_in (f : (cc0_stg0_0 : Ref sig .tc).ty.Contents (Elt F)) : (inM : Memref sig .tc .vmem S256x1024 .f32).view.readAt (Elt F) rIn.toLoadRect f = f :=
  Memref.readAt_unit_zero (Elt F) cc0_stg0_0 hz _ f
theorem read_land (f : (cc0_scratch1 : Ref sig .tc).ty.Contents (Elt F)) : (landM : Memref sig .tc .vmem S256x8 .f32).view.readAt (Elt F) r8.toLoadRect f = f :=
  Memref.readAt_unit_zero (Elt F) cc0_scratch1 hz _ f
theorem write_dep (f w : (cc0_scratch0 : Ref sig .tc).ty.Contents (Elt F)) :
    ((depM : Memref sig .tc .vmem S256x8 .f32).access r8 : View sig .tc _ _ _).write (Elt F) f w Finset.univ = w :=
  Memref.write_access_unit_zero_univ (Elt F) cc0_scratch0 hz _ f w
theorem write_out (f w : (cc0_stg1_0 : Ref sig .tc).ty.Contents (Elt F)) :
    ((outM : Memref sig .tc .vmem S256x8 .f32).access r8 : View sig .tc _ _ _).write (Elt F) f w Finset.univ = w :=
  Memref.write_access_unit_zero_univ (Elt F) cc0_stg1_0 hz _ f w

/-- The departure buffer after the store holds what the device sends. -/
theorem depPts_stored (c : Dev nD) :
    (((depM : Memref sig .tc .vmem S256x8 .f32).access r8).loc (c : Thread nD τ) ↦{fullShare}
        k0_pay10 (k0_pay3 (xblk m ρ c)) (k0_pay5 (xblk m ρ c)) (k0_pay7 (xblk m ρ c)) (k0_pay8 (xblk m ρ c)) : sProp 𝕄)
      = depPts c (sent m ρ c) := (depPts_eq c (sent m ρ c)).symm

section Body

variable (K : Dev nD × Fin 3 → ℕ)

/-- The copy: device `c`'s departure buffer into the landing buffer of `n`, its partner. It spends `c`'s departure
    duty and its partner's arrival duty, and with them the debt of the arrival. -/
theorem wp_copy (c n : Dev nD) (hn : n = peer c) {hsc : (landM : Memref sig (Dev.tc n : Thread nD τ).2.kind .vmem S256x8 .f32).view.ref.isScScratch = false}
    {hsrc : (depM : Memref sig .tc .vmem S256x8 .f32).view.WordExact} {hdst : (landM : Memref sig .tc .vmem S256x8 .f32).view.WordExact}
    {hsem : DmaTarget.Typed .vmem (.dma arrS.sem) (.remote (Dev.tc n : Thread nD τ) (landM : Memref sig .tc .vmem S256x8 .f32) (.dma depS.sem) hsc)}
    {α : Type} {Q : α → sProp 𝕄} {k : PUnit → Prog (TpuEff nD τ sig (Elt F) Λ₀ .tc) α}
    (fn : Buf (Elt F) ((landM : Memref sig .tc .vmem S256x8 .f32).view.loc (peer c : Thread nD τ))) (W : Waits sig Unit) :
    iprop(cellInv EX (plan m ρ) (K (c, 1)) (depCell c) ∗ cellInv EX (plan m ρ) (K (peer c, 2)) (arrCell (peer c))
        ∗ depPts c (sent m ρ c) ∗ landPts (peer c) fn
        ∗ owes (c : Thread nD τ) (tallyAt (arrCell (peer c)) () N) W
        ∗ dutyTok EX (depCell c) 0 () ∗ reached EX (depCell c) 0
        ∗ dutyTok EX (arrCell (peer c)) 0 () ∗ reached EX (arrCell (peer c)) 0)
      ⊢ iprop(((cred (tallyAt (depCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma depM (.remote (Dev.tc n : Thread nD τ) landM (.dma depS.sem) hsc) (.dma arrS.sem) hsrc hdst hsem) k) Q) := by
  subst hn
  unfold depPts landPts
  exact Rounds.wp_send_pointsTo 𝒱₀ EX (plan m ρ) (c : Thread nD τ) none (κ₁ := K (c, 1)) (κ₂ := K (peer c, 2))
    (r₁ := 0) (r₂ := 0) (d₁ := ()) (d₂ := ()) (fd := fn)
    (by rw [duties_dep]; exact Finset.mem_singleton_self _) (by rw [duties_arr]; exact Finset.mem_singleton_self _)
    () () N rfl (amount_dep m ρ c) (amount_arr m ρ (peer c)) 0 (by rw [zero_add]) (W := W)
    (by rw [payload_dep]; exact BI.Entails.refl _)
    (by rw [payload_arr]; unfold arrPay landPts; rw [copied_eq, landed, peer_peer]; exact BI.Entails.refl _)

/-- What the body's run starts from, the names of the invariants fixed: the protocol's state, the debts, the two
    scratch buffers and the two staging buffers. -/
def bodyPre (c : Dev nD) : sProp 𝕄 :=
  iprop((ghost m ρ K c ∗ (cred (tallyAt (barCell c) () 1) ∗ cred (tallyAt (arrCell c) () N) ∗ levAts L lv) ∗ (∃ f, depPts c f) ∗ ∃ f, landPts c f)
    ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))

def bodyPost (c : Dev nD) : sProp 𝕄 :=
  iprop(Φ₁ m ρ c ∗ (dats m ρ 0 c).owesAt () t0_0.succ ∗ held c cc0_stg0_0 (xblk m ρ c) ∗ held c cc0_stg1_0 (outAt m ρ c))

set_option maxHeartbeats 1600000 in
/-- The body runs from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, wp_deviceId]
  unfold bodyPre ghost invs payToks
  iintro ⟨⟨⟨⟨⟨#HIbar, #HIdep, #HIarr, #HIbarP, #HIarrP⟩, ⟨HatB, HatD, HatA⟩, ⟨#HrBP, #HrAP, #HrD, #HrA⟩, HtBP, HtAP, HtD⟩, ⟨HcB, HcA, #Hlev⟩, ⟨%fd, Hdep⟩, %fl, Hland⟩,
    Ho, ⟨%d0, %g0, %hg0, Hx⟩, ⟨%d1, %g1, %hg1, Hout⟩⟩, Hk⟩
  have hx : g0 = xblk m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = owed₀ c from rfl]
  simp only [dev1_eq c]
  -- signal the partner: its barrier duty is paid, and the landing buffer goes with it
  iapply (Rounds.wp_signal 𝒱₀ EX (plan m ρ) (c : Thread nD τ) none (dst := (peer c : Thread nD τ)) (κ := K (peer c, 0))
      (d := ()) (by rw [duties_bar]; exact Finset.mem_singleton_self _) ((amount_bar m ρ (peer c)).trans (by decide)) () (tallyAt (arrCell (peer c)) () N) rfl)
    $$ [HO HtBP Hland]
  · isplitr; · iexact HIbarP
    isplitl [HO]; · iexact HO
    isplitl [HtBP]; · iexact HtBP
    isplitl [Hland]
    · rw [payload_bar]; unfold barPay; rw [peer_peer]
      isplitl [Hland]; · iexists fl; iexact Hland
      iexact HrA
    · iexact HrBP
  iintro HO
  -- the block, and its eight largest entries into the departure buffer
  iapply (wp_load 𝒱₀ (c : Thread nD τ) none Set.univ (m := inM) (Finset.subset_univ _)) $$ Hx; iintro Hx
  rw [read_in]
  ihave Hdep := (Entails.of_eq (depPts_eq c fd)) $$ Hdep
  iapply (wp_load 𝒱₀ (c : Thread nD τ) none Set.univ (m := depM) (Finset.subset_univ _)) $$ Hdep; iintro Hdep
  iapply (wp_store 𝒱₀ (c : Thread nD τ) none Set.univ (m := depM) (r := r8) (Mk := Finset.univ) (Finset.subset_univ _)) $$ Hdep; iintro Hdep
  rw [write_dep]
  ihave Hdep := (Entails.of_eq (depPts_stored m ρ c)) $$ Hdep
  -- wait for the partner's unit: the partner's landing buffer comes with it
  iapply (Rounds.wp_wait_rest_token 𝒱₀ EX (plan m ρ) (c : Thread nD τ) none (κ := K (c, 0))
      (wpE_semWait_eq 𝒱₀ (c : Thread nD τ) none Set.univ) (Set.mem_univ _) () (O := tallyAt (arrCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq ((rest_used m ρ (used_xcell (c, 0))).trans (payload_bar m ρ c))) $$ Hpay
  unfold barPay
  icases Hp with ⟨⟨%fn, HlandP⟩, -⟩
  -- the copy
  iapply (wp_copy m ρ K c _ (dev2_eq c) fn (insert (SemLoc.reg barS, ()) W)) $$ [Hdep HlandP HO HtD HtAP]
  · isplitr; · iexact HIdep
    isplitr; · iexact HIarrP
    isplitl [Hdep]; · iexact Hdep
    isplitl [HlandP]; · iexact HlandP
    isplitl [HO]; · iexact HO
    isplitl [HtD]; · iexact HtD
    isplitr; · iexact HrD
    isplitl [HtAP]; · iexact HtAP
    iexact HrAP
  iintro ⟨HcD, HO⟩
  -- the departure: the departure buffer is the core's again
  iapply (Rounds.wp_wait_rest_token 𝒱₀ EX (plan m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_dep])) $$ [HcD HO HatD]
  · isplitr; · iexact HIdep
    isplitl [HcD]; · iexact HcD
    isplitl [HO]; · iexact HO
    isplitr; · rw [MayWait_zero]; iempintro
    iexact HatD
  iintro ⟨HO, HatD, -, Hpay⟩
  ihave Hdep := (Entails.of_eq ((rest_used m ρ (used_xcell (c, 1))).trans (payload_dep m ρ c))) $$ Hpay
  -- the arrival: the landing buffer, holding what the partner sent
  iapply (Rounds.wp_wait_rest_token 𝒱₀ EX (plan m ρ) (c : Thread nD τ) none (κ := K (c, 2))
      (wpE_waitDma2_eq 𝒱₀ (c : Thread nD τ) none Set.univ) (Set.mem_univ _) () (O := 0)
      (W := insert (SemLoc.dma depS.sem, ()) (insert (SemLoc.reg barS, ()) W)) (R := 0) (m := 0) (T := ∅)
      (by rw [Nat.zero_add, expect_arr])) $$ [HcA HO HatA]
  · isplitr; · iexact HIarr
    isplitl [HcA]; · iexact HcA
    isplitl [HO]; · iexact HO
    isplitr; · rw [MayWait_zero]; iempintro
    iexact HatA
  iintro ⟨HO, HatA, -, Hpay⟩
  ihave Hland := (Entails.of_eq ((rest_used m ρ (used_xcell (c, 2))).trans (payload_arr m ρ c))) $$ Hpay
  unfold depPay arrPay
  -- the three cells close, their counters at zero
  imod (Rounds.cell_close EX (plan m ρ) (Set.mem_univ (K (c, 1))) (fun h => h) (R := 0 + 1) (duties_later m ρ (depCell c))) $$ [HatD] with HzD
  · isplitr; · iexact HIdep
    iexact HatD
  imod (Rounds.cell_close EX (plan m ρ) (Set.mem_univ (K (c, 2))) (fun h => h) (R := 0 + 1) (duties_later m ρ (arrCell c))) $$ [HatA] with HzA
  · isplitr; · iexact HIarr
    iexact HatA
  imod (Rounds.cell_close EX (plan m ρ) (Set.mem_univ (K (c, 0))) (fun h => h) (R := 0 + 1) (duties_later m ρ (barCell c))) $$ [HatB] with HzB
  · isplitr; · iexact HIbar
    iexact HatB
  -- what came, and the result
  ihave Hland := (Entails.of_eq (landPts_eq c (landed m ρ c))) $$ Hland
  iapply (wp_load 𝒱₀ (c : Thread nD τ) none Set.univ (m := landM) (Finset.subset_univ _)) $$ Hland; iintro Hland
  rw [read_land]
  iapply (wp_load 𝒱₀ (c : Thread nD τ) none Set.univ (m := outM) (Finset.subset_univ _)) $$ Hout; iintro Hout
  iapply (wp_store 𝒱₀ (c : Thread nD τ) none Set.univ (m := outM) (r := r8) (Mk := Finset.univ) (Finset.subset_univ _)) $$ Hout; iintro Hout
  rw [write_out, wp_ret]; imodintro
  iapply Hk
  unfold bodyPost Φ₁ Dat.owesAt Pipeline.owesWithin
  rw [show (dats m ρ 0 c).owed t0_0.succ = 0 from rfl]
  isplitl [Hdep Hland HzD HzA HzB]
  · isplitl [Hdep Hland]
    · isplitl [Hdep]; · iexact Hdep
      rw [landPts_eq]; iexact Hland
    isplitl [HzD]; · iexact HzD
    isplitl [HzA] <;> iassumption
  isplitl [HO]
  · iexists (insert (SemLoc.dma arrS.sem, ()) (insert (SemLoc.dma depS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- What the pipeline hands the body. -/
def bodyGiven (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))

set_option maxRecDepth 4000 in
/-- The pipeline's obligation on the body, at every device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyGiven m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyGiven Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      isplitl [Hrest] <;> iassumption
    isplitl [Ho]; · iexact Ho
    isplitl [Hx] <;> iassumption
  · iintro H; iexact H

end Body

end TopK

end
-- ==== Proof.Run.lean ====
/-
# The launch: eight bodies under one protocol, and the run of the whole program

The protocol's invariants are allocated for all devices at once (the barrier semaphore of a device is touched by its
partner), each device is dealt the tokens of the duties it pays, and the library's launch theorem turns the body's
obligation into a run of `main`: it terminates under every fair schedule, with the result arrays at `outAt`, the
arguments unchanged and every semaphore at zero.
-/
module

public import proofs.«01_k».proof.Proof.Body
public import Idealize.ShloMosaic.Lib.Pipeline.CollectiveSegs

@[expose] public section

noncomputable section

namespace TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m ρ 0 c).share w = fullShare := by unfold Dat.share; split <;> rfl

theorem xsem_injective : Function.Injective xsem := by
  intro k k' h
  fin_cases k <;> fin_cases k' <;> first | rfl | exact absurd h (by decide)

theorem xcell_injective : Function.Injective (xcell : Dev nD × Fin 3 → GSem nD τ sig) := by
  rintro ⟨c, k⟩ ⟨c', k'⟩ h
  have hc : c = c' := congrArg (fun g : GSem nD τ sig => g.1.1) h
  have hk : k = k' := xsem_injective (congrArg Prod.snd h)
  rw [hc, hk]

def cells : Finset (GSem nD τ sig) := Finset.univ.map ⟨xcell, xcell_injective⟩

/-- One duty token per cell, in round 0. -/
abbrev tokOf (ck : Dev nD × Fin 3) : GSem nD τ sig × ℕ × Unit := (xcell ck, 0, ())
theorem tokOf_injective : Function.Injective (tokOf : Dev nD × Fin 3 → GSem nD τ sig × ℕ × Unit) :=
  fun _ _ h => xcell_injective (congrArg Prod.fst h)
def tokens : Finset (GSem nD τ sig × ℕ × Unit) := Finset.univ.map ⟨tokOf, tokOf_injective⟩

def u₀ : UU :=
  (initOf (Pipeline.cells cfgs cellOf_inj) (Pipeline.launchToks cfgs cellOf_inj), initOf cells tokens)

/-- What the launch element deals a device: its three cells' states, its positions and marks, its cells' tokens. -/
def G (c : Dev nD) : sProp 𝕄 :=
  iprop((bigSep Finset.univ fun k : Fin 3 => roundState EX (plan m ρ) (xcell (c, k)) 0)
    ∗ (bigSep Finset.univ fun k : Fin 3 => iprop(atPos EX (xcell (c, k)) 0 ∅ 0 ∗ reached EX (xcell (c, k)) 0))
    ∗ bigSep Finset.univ fun k : Fin 3 => dutyTok EX (xcell (c, k)) 0 ())

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_cells : BI.own (EX (initOf cells tokens)) ⊢ (|==> bigSep Finset.univ (G m ρ) : sProp 𝕄) := by
  have hX (Φ : GSem nD τ sig → sProp 𝕄) : bigSep cells Φ = bigSep Finset.univ fun c : Dev nD => bigSep Finset.univ fun k : Fin 3 => Φ (xcell (c, k)) := by
    unfold cells; rw [bigSep_map, bigSep_univ_prod]; rfl
  have hT : bigSep tokens (fun x => (dutyTok EX x.1 x.2.1 x.2.2 : sProp 𝕄))
      = bigSep Finset.univ fun c : Dev nD => bigSep Finset.univ fun k : Fin 3 => dutyTok EX (xcell (c, k)) 0 () := by
    unfold tokens; rw [bigSep_map, bigSep_univ_prod]; rfl
  iintro HX
  imod (Rounds.fund EX (plan m ρ) cells tokens) $$ HX with ⟨Hst, Hr, Hat, Htok⟩
  imodintro
  ihave Hst' := (Entails.of_eq (hX fun g => roundState EX (plan m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants -/

theorem ownSems0_eq (c : Dev nD) : (Pipeline.ownSems0 (Ix := Unit) (Name := ℕ) (U := UU) (Lvl := ℕ) (Val := Elt F) (τ := τ) osem c : sProp 𝕄)
    = iprop(semVal (depCell c) 0 ∗ semVal (arrCell c) 0) := by
  rw [Pipeline.ownSems0_eq_of_list c osem [0, 1] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (xcell (c, k)) 0 : sProp 𝕄) := by
  rw [ownSems0_eq, unscopedSems0_eq, bigSep_fin3]
  iintro ⟨⟨HD, HA⟩, HB⟩
  isplitl [HB]; · iexact HB
  isplitl [HD] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (plan m ρ) κ (xcell (c, k))))
          ∗ (bigSep Finset.univ fun k => iprop(atPos EX (xcell (c, k)) 0 ∅ 0 ∗ reached EX (xcell (c, k)) 0))
          ∗ bigSep Finset.univ fun k : Fin 3 => dutyTok EX (xcell (c, k)) 0 ()) := by
  unfold G
  iintro ⟨Hos, Hus, Hst, Hrest⟩
  ihave Hv := (sems0_eq (F := F) c) $$ [Hos Hus]
  · isplitl [Hos] <;> iassumption
  imod (show iprop((bigSep Finset.univ fun k : Fin 3 => semVal (xcell (c, k)) 0) ∗ bigSep Finset.univ fun k : Fin 3 => roundState EX (plan m ρ) (xcell (c, k)) 0)
      ⊢ (|={Set.univ}=> bigSep Finset.univ fun k => iprop(∃ κ : ℕ, cellInv EX (plan m ρ) κ (xcell (c, k))) : sProp 𝕄) from by
        rw [← bigSep_sep']
        exact (bigSep_mono fun k _ => (Rounds.body_intro EX (plan m ρ) (xcell (c, k))).trans inv_alloc).trans (bigSep_fupd _ _)) $$ [Hv Hst] with Hinv
  · isplitl [Hv] <;> iassumption
  imodintro
  isplitl [Hinv]; · iexact Hinv
  iexact Hrest

/-- The invariants and marks of all cells, shared by all devices. -/
def records (K : Dev nD × Fin 3 → ℕ) : sProp 𝕄 :=
  iprop((bigSep Finset.univ fun ck : Dev nD × Fin 3 => cellInv EX (plan m ρ) (K ck) (xcell ck))
    ∗ bigSep Finset.univ fun ck : Dev nD × Fin 3 => reached EX (xcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv EX (plan m ρ) (K ck) (xcell ck) : sProp 𝕄)) ⊢ cellInv EX (plan m ρ) (K ck) (xcell ck) :=
  bigSep_elim (Finset.mem_univ ck)
theorem reached_at (ck : Dev nD × Fin 3) :
    (bigSep Finset.univ fun ck : Dev nD × Fin 3 => (reached EX (xcell ck) 0 : sProp 𝕄)) ⊢ reached EX (xcell ck) 0 :=
  bigSep_elim (Finset.mem_univ ck)

/-- What belongs to device `c` alone: its positions and the tokens of the duties it pays. -/
def linear (c : Dev nD) : sProp 𝕄 :=
  iprop((bigSep Finset.univ fun k : Fin 3 => atPos EX (xcell (c, k)) 0 ∅ 0) ∗ payToks c)

theorem ghost_intro (K : Dev nD × Fin 3 → ℕ) (c : Dev nD) : iprop(records m ρ K ∗ linear c) ⊢ G' m ρ c := by
  unfold records linear G' ghost invs
  rw [bigSep_fin3]
  iintro ⟨⟨#HI, #HR⟩, Hat, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (peer c, 0)); iexact HI
    iapply (inv_at m ρ K (peer c, 2)); iexact HI
  isplitl [Hat]; · iexact Hat
  isplitr
  · isplitr; · iapply (reached_at (F := F) (peer c, 0)); iexact HR
    isplitr; · iapply (reached_at (F := F) (peer c, 2)); iexact HR
    isplitr; · iapply (reached_at (F := F) (c, 1)); iexact HR
    iapply (reached_at (F := F) (c, 2)); iexact HR
  iexact Htok

/-- The tokens of every device's cells are the tokens every device pays with: barrier and arrival change hands between
    partners, departure stays. -/
theorem toks_around : (bigSep Finset.univ fun c : Dev nD => bigSep Finset.univ fun k : Fin 3 => (dutyTok EX (xcell (c, k)) 0 () : sProp 𝕄))
    ⊢ bigSep Finset.univ fun c : Dev nD => payToks c := by
  unfold payToks
  simp only [bigSep_fin3]
  rw [bigSep_sep', bigSep_sep', bigSep_sep', bigSep_sep',
    bigSep_univ_equiv swap (fun c : Dev nD => (dutyTok EX (xcell (c, 0)) 0 () : sProp 𝕄)),
    bigSep_univ_equiv swap (fun c : Dev nD => (dutyTok EX (xcell (c, 2)) 0 () : sProp 𝕄))]
  iintro ⟨HB, HD, HA⟩
  isplitl [HB]; · iexact HB
  isplitl [HA]; · iexact HA
  iexact HD

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (plan m ρ) κ (xcell (c, k))))
          ∗ (bigSep Finset.univ fun k => iprop(atPos EX (xcell (c, k)) 0 ∅ 0 ∗ reached EX (xcell (c, k)) 0))
          ∗ bigSep Finset.univ fun k : Fin 3 => dutyTok EX (xcell (c, k)) 0 ()) : sProp 𝕄)
      ⊢ bigSep Finset.univ (G' m ρ) := by
  rw [bigSep_sep', bigSep_sep', ← bigSep_univ_prod (fun ck : Dev nD × Fin 3 => iprop(∃ κ : ℕ, cellInv EX (plan m ρ) κ (xcell ck))),
    bigSep_congr (s := Finset.univ) (fun (c : Dev nD) _ => bigSep_sep' Finset.univ (fun k : Fin 3 => (atPos EX (xcell (c, k)) 0 ∅ 0 : sProp 𝕄)) (fun k => reached EX (xcell (c, k)) 0)),
    bigSep_sep', ← bigSep_univ_prod (fun ck : Dev nD × Fin 3 => (reached EX (xcell ck) 0 : sProp 𝕄))]
  iintro ⟨HI, ⟨Hat, #HR⟩, Htok⟩
  ihave HK := (BI.bigSep_exists_pi Finset.univ (fun (ck : Dev nD × Fin 3) (κ : ℕ) => (cellInv EX (plan m ρ) κ (xcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 3 => (atPos EX (xcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem owed_bar (d c : Dev nD) : owed₀ d (barCell c) () = if d = peer c then 1 else 0 := by
  unfold owed₀
  rw [Pi.add_apply, Finsupp.add_apply, tallyAt_ne_cell (fun h => arr_ne_bar (congrArg Prod.snd h).symm), tallyAt_apply, Finsupp.zero_apply, Nat.zero_add]
  refine if_congr ⟨fun h => ?_, fun h => ⟨?_, rfl⟩⟩ rfl rfl
  · exact eq_peer_comm.mp (congrArg (fun g : GSem nD τ sig => g.1.1) h.1).symm
  · rw [h, peer_peer]

theorem owed_arr (d c : Dev nD) : owed₀ d (arrCell c) () = if d = peer c then N else 0 := by
  unfold owed₀
  rw [Pi.add_apply, Finsupp.add_apply, tallyAt_ne_cell (g := barCell (peer d)) (fun h => arr_ne_bar (congrArg Prod.snd h)), tallyAt_apply, Finsupp.zero_apply, Nat.add_zero]
  refine if_congr ⟨fun h => ?_, fun h => ⟨?_, rfl⟩⟩ rfl rfl
  · exact eq_peer_comm.mp (congrArg (fun g : GSem nD τ sig => g.1.1) h.1).symm
  · rw [h, peer_peer]

theorem launch_bar (c : Dev nD) :
    tallyOn (barCell c) (launchCredit (Pipeline.owing owed₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_arr (c : Dev nD) :
    tallyOn (arrCell c) (launchCredit (Pipeline.owing owed₀) 0 (arrCell c)) = (tallyAt (arrCell c) () N : CellTallies nD τ sig Unit) := by
  unfold tallyAt; refine congrArg _ (Finsupp.ext fun u => ?_); cases u
  rw [Pipeline.launchCredit_owing, Finsupp.single_eq_same, Finset.sum_congr rfl fun d _ => owed_arr d c,
    Finset.sum_ite_eq' Finset.univ (peer c) fun _ => N, if_pos (Finset.mem_univ _)]

theorem creds (c : Dev nD) :
    (Pipeline.launchCred owed₀ c : sProp 𝕄) ⊢ iprop(cred (tallyAt (barCell c) () 1) ∗ cred (tallyAt (arrCell c) () N)) := by
  unfold Pipeline.launchCred
  rw [bigSep_univ_at _ (SemLoc.reg barS), launch_bar]
  refine sep_mono_right ?_
  rw [← launch_arr]
  exact bigSep_elim (Finset.mem_erase.mpr ⟨arr_ne_bar, Finset.mem_univ _⟩)

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hd⟩, ⟨%g, Hl⟩⟩
  isplitl [Hs]; · iexact Hs
  isplitl [Hd]
  · iexists f; rw [depPts_eq]; iexact Hd
  iexists g; rw [landPts_eq]; iexact Hl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨⟨Hd, Hl⟩, HzD, HzA, HzB⟩
  isplitl [HzB]; · iexact HzB
  isplitl [HzD HzA]
  · isplitl [HzD] <;> iassumption
  isplitl [Hd]
  · iexists (sent m ρ c); rw [← depPts_eq]; iexact Hd
  iexists (landed m ρ c); rw [← landPts_eq]; iexact Hl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays after the run, as the pipeline's data say. -/
def finalA (c : Dev nD) (w : Fin cfg0.W) : Buf (Elt F) ((cfg0.win w).arr.view.loc (c : Thread nD τ)) := (dats m ρ 0 c).arrAt w cfg0.N

set_option maxRecDepth 8000 in
/-- For any float values and any memory with zero counters, every fair execution of `main` on the eight devices ends,
    with every device's two arrays as computed and every semaphore at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is what it was. -/
theorem finalA_in (c : Dev nD) : finalA m ρ c (0 : Fin 2) = (s₀ m ρ).mem (win0_0.arr.view.loc (c : Thread nD τ)) :=
  (dats (F := F) m ρ 0 c).arrAt_in (0 : Fin 2) rfl _

/-- The block the kernel reads is the whole argument array. -/
theorem xblk_eq (c : Dev nD) : xblk m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array is what the body computed. -/
theorem finalA_out (c : Dev nD) : finalA m ρ c (1 : Fin 2) = outAt m ρ c := by
  have hb : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  rw [← hb]
  exact (Memref.read_access_unit_zero (Elt F) main_v1 hz (fun a => by fin_cases a <;> decide) _).symm

end TopK

end
-- ==== Proof.Frames.lean ====
/-
# The frames

The kernel and its idealization have the same text, so both frames are one run (`TopK.run_main`, over any float
values), read once at bit patterns and once at extended reals.
-/
module

public import proofs.«01_k».proof.Defs
public import proofs.«01_k».proof.Proof.Gen.Kernel
public import proofs.«01_k».proof.Proof.Run

@[expose] public section

noncomputable section

namespace TopK

open Idealize.ShloMosaic Idealize.SL.Sem

variable {F : FTy → Type} [FloatOps F]

/-- The two programs' body tables are one: the same body at the one label. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => rfl
  | ⟨_ + 1, h⟩ => exact absurd h (Nat.not_lt.2 (Nat.le_add_left _ _))

theorem defs_eq : Cert.Kernel.defs (F := F) = Cert.KernelIdeal.defs (F := F) :=
  congrArg (Pipeline.defs (Cert.KernelIdeal.pcfgs (F := F))) bodies_eq

/-- Over any float values: the program runs, keeps its arguments, and leaves every semaphore at zero. -/
theorem frame (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (finalA_in m ρ c), h.2⟩) (run_main m ρ)

theorem frame_kernel : Cert.quiescent_Kernel := fun m ρ _ => by
  rw [defs_eq]; exact frame (F := Bits) m ρ

theorem frame_kernelIdeal : Cert.quiescent_KernelIdeal := fun m ρ _ => frame (F := Ideal) m ρ

end TopK

end
-- ==== Proof.Extract.lean ====
/-
# Taking the largest entry again and again

The kernel finds the largest entries of a line in rounds: it takes the line's maximum, overwrites every entry equal
to it with a floor value `n`, and starts over. What a round sees of a line is the set of values standing in it, so
this module follows that set: `best S` is the maximum, `clear n S` the set after one round, `pick n k S` what round
`k` takes.

* `pick_of_above`: a value above the floor with exactly `k` values above it is what round `k` takes.
* `pick_of_floor`: once no more than `k` values stand above the floor, round `k` takes the floor.
* `pick_merged`: taking eight from each of two sets and then eight from those gives what the union gives.
* `pick_sorted_iff`: just when that is the `k`-th entry of the line sorted downwards.
-/
module

public import Mathlib.Data.Finset.Lattice.Fold
public import Mathlib.Data.Finset.Card
public import Mathlib.Data.Finset.Lattice.Lemmas
public import Mathlib.Order.BoundedOrder.Basic
public import Mathlib.Data.Fintype.Card
public import Mathlib.Data.Fin.SuccPred
public import Mathlib.Order.Fin.Basic

@[expose] public section

namespace TopK

variable {α : Type} [LinearOrder α] [OrderBot α]

/-- The largest member. -/
def best (S : Finset α) : α := S.sup id

/-- One round: the largest member gives way to the floor. -/
def clear (n : α) (S : Finset α) : Finset α := insert n (S.erase (best S))

/-- What round `k` takes. -/
def pick (n : α) : ℕ → Finset α → α
  | 0, S => best S
  | k + 1, S => pick n k (clear n S)

/-- The members above `x`. -/
def above (x : α) (S : Finset α) : Finset α := S.filter (x < ·)

theorem mem_above {x y : α} {S : Finset α} : y ∈ above x S ↔ y ∈ S ∧ x < y := Finset.mem_filter

theorem le_best {S : Finset α} {x : α} (h : x ∈ S) : x ≤ best S := Finset.le_sup (f := id) h

theorem best_mem {S : Finset α} (h : S.Nonempty) : best S ∈ S := by
  obtain ⟨x, hx, e⟩ := Finset.exists_mem_eq_sup S h id
  show S.sup id ∈ S
  rw [e]; exact hx

/-- A member with nothing above it is the largest. -/
theorem best_eq {S : Finset α} {x : α} (h : x ∈ S) (h0 : above x S = ∅) : best S = x := by
  refine le_antisymm ?_ (le_best h)
  by_contra hlt
  have : best S ∈ above x S := mem_above.mpr ⟨best_mem ⟨x, h⟩, not_le.mp hlt⟩
  rw [h0] at this
  exact absurd this (Finset.notMem_empty _)

/-- Above a point not below the floor, a round removes the largest member and nothing else. -/
theorem above_clear {n x : α} (hn : n ≤ x) (S : Finset α) : above x (clear n S) = (above x S).erase (best S) := by
  ext y
  simp only [mem_above, clear, Finset.mem_insert, Finset.mem_erase]
  constructor
  · rintro ⟨rfl | ⟨h1, h2⟩, h3⟩
    · exact absurd h3 (not_lt.mpr hn)
    · exact ⟨h1, h2, h3⟩
  · rintro ⟨h1, h2, h3⟩
    exact ⟨Or.inr ⟨h1, h2⟩, h3⟩

/-- If anything stands above `x`, the largest member does. -/
theorem best_mem_above {S : Finset α} {x : α} (h : (above x S).Nonempty) : best S ∈ above x S := by
  obtain ⟨y, hy⟩ := h
  obtain ⟨h1, h2⟩ := mem_above.mp hy
  exact mem_above.mpr ⟨best_mem ⟨y, h1⟩, lt_of_lt_of_le h2 (le_best h1)⟩

theorem pick_of_above {n : α} (k : ℕ) : ∀ {S : Finset α} {x : α}, x ∈ S → n < x → (above x S).card = k →
    pick n k S = x := by
  induction k with
  | zero => exact fun hx _ hc => best_eq hx (Finset.card_eq_zero.mp hc)
  | succ k ih =>
    intro S x hx hn hc
    have hb : best S ∈ above x S := best_mem_above (Finset.card_pos.mp (by omega))
    refine ih ?_ hn ?_
    · exact Finset.mem_insert_of_mem (Finset.mem_erase.mpr ⟨ne_of_lt (mem_above.mp hb).2, hx⟩)
    · rw [above_clear hn.le, Finset.card_erase_of_mem hb, hc]; rfl

theorem pick_of_floor {n : α} (k : ℕ) : ∀ {S : Finset α}, (n ∈ S ∨ 1 ≤ k) → (above n S).card ≤ k →
    pick n k S = n := by
  induction k with
  | zero => exact fun h hc => best_eq (h.resolve_right (by omega)) (Finset.card_eq_zero.mp (Nat.le_zero.mp hc))
  | succ k ih =>
    intro S _ hc
    refine ih (Or.inl (Finset.mem_insert_self _ _)) ?_
    rw [above_clear le_rfl]
    rcases Finset.eq_empty_or_nonempty (above n S) with h0 | h1
    · rw [h0, Finset.erase_empty]; exact Nat.zero_le _
    · rw [Finset.card_erase_of_mem (best_mem_above h1)]; omega

/-- A round takes a member or the floor. -/
theorem pick_mem {n : α} (k : ℕ) : ∀ {S : Finset α}, S.Nonempty → pick n k S ∈ insert n S := by
  induction k with
  | zero => exact fun h => Finset.mem_insert_of_mem (best_mem h)
  | succ k ih =>
    intro S _
    have h := ih (S := clear n S) ⟨n, Finset.mem_insert_self _ _⟩
    rcases Finset.mem_insert.mp h with h | h
    · exact Finset.mem_insert.mpr (Or.inl h)
    rcases Finset.mem_insert.mp h with h | h
    · exact Finset.mem_insert.mpr (Or.inl h)
    · exact Finset.mem_insert_of_mem (Finset.mem_of_mem_erase h)

/-! ## Two sets, then what was taken from them -/

/-- What the first `N` rounds take. -/
def picks (n : α) (N : ℕ) (S : Finset α) : Finset α := (Finset.range N).image fun k => pick n k S

theorem mem_picks {n y : α} {N : ℕ} {S : Finset α} : y ∈ picks n N S ↔ ∃ k < N, pick n k S = y := by
  simp only [picks, Finset.mem_image, Finset.mem_range]

/-- Every value above the floor with fewer than `N` above it is among the first `N` taken. -/
theorem mem_picks_of_above {n y : α} {N : ℕ} {S : Finset α} (hy : y ∈ S) (hn : n < y) (hc : (above y S).card < N) :
    y ∈ picks n N S := mem_picks.mpr ⟨_, hc, pick_of_above _ hy hn rfl⟩

/-- Above the floor, what is taken was there. -/
theorem mem_of_mem_picks {n y : α} {N : ℕ} {S : Finset α} (hS : S.Nonempty) (h : y ∈ picks n N S) (hn : n < y) :
    y ∈ S := by
  obtain ⟨k, _, rfl⟩ := mem_picks.mp h
  exact (Finset.mem_insert.mp (pick_mem k hS)).resolve_left (ne_of_gt hn)

theorem above_mono {x : α} {S T : Finset α} (h : S ⊆ T) : above x S ⊆ above x T := Finset.filter_subset_filter _ h

theorem above_anti {x y : α} (S : Finset α) (h : x ≤ y) : above y S ⊆ above x S := fun _ hz =>
  mem_above.mpr ⟨(mem_above.mp hz).1, lt_of_le_of_lt h (mem_above.mp hz).2⟩

/-- The first `N` of `A` and the first `N` of `B`, put together, have the same members as `A ∪ B` above any point that
    is not below the floor and has at most `N` members above it. -/
theorem above_picks {n x : α} {N : ℕ} {A B : Finset α} (hA : A.Nonempty) (hB : B.Nonempty) (hn : n ≤ x)
    (hc : (above x (A ∪ B)).card ≤ N) : above x (picks n N A ∪ picks n N B) = above x (A ∪ B) := by
  ext y
  simp only [mem_above, Finset.mem_union]
  constructor
  · rintro ⟨h | h, hx⟩
    · exact ⟨Or.inl (mem_of_mem_picks hA h (lt_of_le_of_lt hn hx)), hx⟩
    · exact ⟨Or.inr (mem_of_mem_picks hB h (lt_of_le_of_lt hn hx)), hx⟩
  · rintro ⟨h, hx⟩
    -- strictly fewer stand above `y` than above `x`: `y` itself is one of the latter
    have key : ∀ S : Finset α, S ⊆ A ∪ B → y ∈ S → (above y S).card < N := fun S hS hy => by
      refine lt_of_lt_of_le (Finset.card_lt_card ?_) hc
      refine ⟨(above_mono hS).trans (above_anti _ hx.le), fun hsub => ?_⟩
      have := hsub (mem_above.mpr ⟨hS hy, hx⟩)
      exact lt_irrefl _ (mem_above.mp this).2
    have hny := lt_of_le_of_lt hn hx
    refine ⟨h.imp (fun h => ?_) (fun h => ?_), hx⟩
    · exact mem_picks_of_above h hny (key A Finset.subset_union_left h)
    · exact mem_picks_of_above h hny (key B Finset.subset_union_right h)

/-- Taking from what was taken: a value of `A ∪ B` above the floor with exactly `k` above it, or the floor when at most
    `k` stand above it, is what round `k < N` takes from the first `N` of `A` and the first `N` of `B`. -/
theorem pick_merged {n t : α} {N k : ℕ} {A B : Finset α} (hA : A.Nonempty) (hB : B.Nonempty) (hk : k < N)
    (ht : t ∈ A ∪ B) (h : (n < t ∧ (above t (A ∪ B)).card = k) ∨ (t = n ∧ (above n (A ∪ B)).card ≤ k)) :
    pick n k (picks n N A ∪ picks n N B) = t := by
  rcases h with ⟨hn, hc⟩ | ⟨rfl, hc⟩
  · have e := above_picks hA hB hn.le (hc.le.trans hk.le)
    refine pick_of_above k ?_ hn (by rw [e, hc])
    rcases Finset.mem_union.mp ht with h | h
    · refine Finset.mem_union_left _ (mem_picks_of_above h hn (lt_of_le_of_lt ?_ (hc.trans_lt hk)))
      exact Finset.card_le_card (above_mono Finset.subset_union_left)
    · refine Finset.mem_union_right _ (mem_picks_of_above h hn (lt_of_le_of_lt ?_ (hc.trans_lt hk)))
      exact Finset.card_le_card (above_mono Finset.subset_union_right)
  · have e := above_picks hA hB (le_refl t) (hc.trans hk.le)
    refine pick_of_floor k (Or.inl ?_) (by rw [e]; exact hc)
    rcases Finset.mem_union.mp ht with h | h
    · refine Finset.mem_union_left _ (mem_picks.mpr ⟨k, hk, pick_of_floor k (Or.inl h) ?_⟩)
      exact (Finset.card_le_card (above_mono Finset.subset_union_left)).trans hc
    · refine Finset.mem_union_right _ (mem_picks.mpr ⟨k, hk, pick_of_floor k (Or.inl h) ?_⟩)
      exact (Finset.card_le_card (above_mono Finset.subset_union_right)).trans hc

/-! ## What a round takes, counted -/

/-- From values of which one is not below the floor, no round takes anything below the floor. -/
theorem le_pick {n : α} (k : ℕ) : ∀ {S : Finset α} {y : α}, y ∈ S → n ≤ y → n ≤ pick n k S := by
  induction k with
  | zero => exact fun hy hn => hn.trans (le_best hy)
  | succ k ih => exact fun _ _ => ih (Finset.mem_insert_self _ _) le_rfl

/-- If round `k` takes something above the floor, exactly `k` values stand above that. -/
theorem card_above_pick {n : α} (k : ℕ) : ∀ {S : Finset α}, S.Nonempty → n < pick n k S →
    (above (pick n k S) S).card = k := by
  induction k with
  | zero =>
    intro S _ _
    refine Finset.card_eq_zero.mpr (Finset.eq_empty_of_forall_notMem fun y hy => ?_)
    exact absurd (le_best (mem_above.mp hy).1) (not_le.mpr (mem_above.mp hy).2)
  | succ k ih =>
    intro S _ hn
    have hne : (clear n S).Nonempty := ⟨n, Finset.mem_insert_self _ _⟩
    change n < pick n k (clear n S) at hn
    have hc := ih hne hn
    have hx : pick n k (clear n S) ∈ S.erase (best S) := by
      rcases Finset.mem_insert.mp (pick_mem (n := n) k hne) with h | h
      · exact absurd h (ne_of_gt hn)
      · exact (Finset.mem_insert.mp h).resolve_left (ne_of_gt hn)
    obtain ⟨h1, h2⟩ := Finset.mem_erase.mp hx
    have hb : best S ∈ above (pick n k (clear n S)) S := mem_above.mpr ⟨best_mem ⟨_, h2⟩, lt_of_le_of_ne (le_best h2) h1⟩
    rw [above_clear hn.le, Finset.card_erase_of_mem hb] at hc
    show (above (pick n k (clear n S)) S).card = k + 1
    have := Finset.card_pos.mpr ⟨_, hb⟩
    omega

/-! ## A line sorted downwards -/

section Sorted

variable {m : ℕ} {n : α} (x : Fin m → α) (σ : Fin m → Fin m) (hσ : Function.Surjective σ)
  (hs : ∀ i j, i < j → x (σ j) ≤ x (σ i)) (k : ℕ) (hk : k < m)

/-- The first `k` sorted entries. -/
def firsts (i : Fin k) : α := x (σ ⟨i.val, i.isLt.trans hk⟩)

include hσ hs in
/-- Whatever stands above sorted entry `k` is one of the first `k`. -/
theorem above_sub_firsts : above (x (σ ⟨k, hk⟩)) (Finset.univ.image x) ⊆ Finset.univ.image (firsts x σ k hk) := by
  intro y hy
  obtain ⟨hy1, hy2⟩ := mem_above.mp hy
  obtain ⟨j, _, rfl⟩ := Finset.mem_image.mp hy1
  obtain ⟨i, rfl⟩ := hσ j
  have hik : i.val < k := by
    by_contra hlt
    rcases (not_lt.mp hlt).lt_or_eq with h | h
    · exact absurd (hs ⟨k, hk⟩ i h) (not_le.mpr hy2)
    · have e : (⟨k, hk⟩ : Fin m) = i := Fin.ext h
      rw [e] at hy2
      exact lt_irrefl _ hy2
  exact Finset.mem_image.mpr ⟨⟨i.val, hik⟩, Finset.mem_univ _, rfl⟩

theorem card_firsts : (Finset.univ.image (firsts x σ k hk)).card ≤ k :=
  Finset.card_image_le.trans (by rw [Finset.card_univ, Fintype.card_fin])

include hσ hs in
theorem card_above_le : (above (x (σ ⟨k, hk⟩)) (Finset.univ.image x)).card ≤ k :=
  (Finset.card_le_card (above_sub_firsts x σ hσ hs k hk)).trans (card_firsts x σ k hk)

include hs in
/-- Where every step goes strictly down, the sorted line falls strictly. -/
theorem falls (hstep : ∀ i (h : i < k), x (σ ⟨i + 1, by omega⟩) < x (σ ⟨i, by omega⟩)) :
    ∀ i j : Fin m, i < j → j.val ≤ k → x (σ j) < x (σ i) := by
  intro i j hij hj
  refine lt_of_le_of_lt ?_ (hstep i.val (lt_of_lt_of_le hij hj))
  rcases (Nat.succ_le_of_lt hij).lt_or_eq with h | h
  · exact hs ⟨i.val + 1, by omega⟩ j h
  · have e : (⟨i.val + 1, by omega⟩ : Fin m) = j := Fin.ext h
    rw [e]

include hσ hs in
/-- Exactly `k` values stand above sorted entry `k` just when every step before it goes strictly down. -/
theorem card_above_iff : (above (x (σ ⟨k, hk⟩)) (Finset.univ.image x)).card = k ↔
    ∀ i (h : i < k), x (σ ⟨i + 1, by omega⟩) < x (σ ⟨i, by omega⟩) := by
  have hsub := above_sub_firsts x σ hσ hs k hk
  constructor
  · intro hc i hi
    have e : above (x (σ ⟨k, hk⟩)) (Finset.univ.image x) = Finset.univ.image (firsts x σ k hk) :=
      Finset.eq_of_subset_of_card_le hsub (by rw [hc]; exact card_firsts x σ k hk)
    have hinj : Set.InjOn (firsts x σ k hk) (Finset.univ : Finset (Fin k)) := by
      refine Finset.card_image_iff.mp ?_
      rw [← e, hc, Finset.card_univ, Fintype.card_fin]
    rcases (Nat.succ_le_of_lt hi).lt_or_eq with h | h
    · refine lt_of_le_of_ne (hs ⟨i, by omega⟩ ⟨i + 1, by omega⟩ (Nat.lt_succ_self i)) fun heq => ?_
      have := hinj (Finset.mem_coe.mpr (Finset.mem_univ (⟨i + 1, h⟩ : Fin k)))
        (Finset.mem_coe.mpr (Finset.mem_univ (⟨i, hi⟩ : Fin k))) heq
      exact absurd (congrArg Fin.val this) (Nat.succ_ne_self i)
    · have hm : firsts x σ k hk ⟨i, hi⟩ ∈ above (x (σ ⟨k, hk⟩)) (Finset.univ.image x) := by
        rw [e]; exact Finset.mem_image_of_mem _ (Finset.mem_univ _)
      have e' : (⟨i + 1, by omega⟩ : Fin m) = ⟨k, hk⟩ := Fin.ext h
      rw [e']
      exact (mem_above.mp hm).2
  · intro hstep
    have hdown := falls x σ hs k hk hstep
    have e : above (x (σ ⟨k, hk⟩)) (Finset.univ.image x) = Finset.univ.image (firsts x σ k hk) := by
      refine Finset.Subset.antisymm hsub fun y hy => ?_
      obtain ⟨i, _, rfl⟩ := Finset.mem_image.mp hy
      exact mem_above.mpr ⟨Finset.mem_image_of_mem x (Finset.mem_univ _), hdown _ ⟨k, hk⟩ i.isLt le_rfl⟩
    rw [e, Finset.card_image_of_injective, Finset.card_univ, Fintype.card_fin]
    intro a b hab
    rcases lt_trichotomy a b with h | h | h
    · exact absurd hab (ne_of_gt (hdown ⟨a.val, a.isLt.trans hk⟩ ⟨b.val, b.isLt.trans hk⟩ h b.isLt.le))
    · exact h
    · exact absurd hab (ne_of_lt (hdown ⟨b.val, b.isLt.trans hk⟩ ⟨a.val, a.isLt.trans hk⟩ h a.isLt.le))

include hσ hs in
/-- Rounds on what was taken from the two halves of a line take sorted entry `k` just when it is above the floor and
    every step before it goes strictly down, or it is the floor. -/
theorem pick_sorted_iff {N : ℕ} {A B : Finset α} (hA : A.Nonempty) (hB : B.Nonempty) (hN : 2 ≤ N) (hkN : k < N)
    (hAB : A ∪ B = Finset.univ.image x) :
    pick n k (picks n N A ∪ picks n N B) = x (σ ⟨k, hk⟩) ↔
      (n < x (σ ⟨k, hk⟩) ∧ ∀ i (h : i < k), x (σ ⟨i + 1, by omega⟩) < x (σ ⟨i, by omega⟩)) ∨ x (σ ⟨k, hk⟩) = n := by
  have hle := card_above_le x σ hσ hs k hk
  have hin : x (σ ⟨k, hk⟩) ∈ A ∪ B := by rw [hAB]; exact Finset.mem_image_of_mem x (Finset.mem_univ _)
  constructor
  · intro h
    -- round 1 on `A` already takes nothing below the floor
    have h1 : pick n 1 A ∈ picks n N A ∪ picks n N B := Finset.mem_union_left _ (mem_picks.mpr ⟨1, hN, rfl⟩)
    have hn1 : n ≤ pick n 1 A := le_pick 0 (Finset.mem_insert_self _ _) le_rfl
    have hn := le_pick k h1 hn1
    rw [h] at hn
    rcases hn.lt_or_eq with hn | hn
    · refine Or.inl ⟨hn, (card_above_iff x σ hσ hs k hk).mp ?_⟩
      have hc := card_above_pick k ⟨_, h1⟩ (by rw [h]; exact hn)
      rw [h, above_picks hA hB hn.le (by rw [hAB]; exact hle.trans hkN.le), hAB] at hc
      exact hc
    · exact Or.inr hn.symm
  · intro h
    refine pick_merged hA hB hkN hin ?_
    rw [hAB]
    rcases h with ⟨hn, hstep⟩ | hn
    · exact Or.inl ⟨hn, (card_above_iff x σ hσ hs k hk).mpr hstep⟩
    · exact Or.inr ⟨hn, by rw [← hn]; exact hle⟩

end Sorted

end TopK

end
-- ==== Proof.KernelValue.lean ====
/-
# What the kernel computes on a line

Read at the extended reals, the kernel's text is: `colMax`, the maximum of every line; `wipe`, every entry equal to
its line's maximum replaced by the floor; and both again, eight times. Seen as the set of values in line `r`
(`lineSet v r`), `colMax` is `best` and `wipe` is `clear`, so round `k` of a stage yields `pick floorVal k` of the
stage's line. The second stage's lines are the eight values of either half side by side.

* `stage1_apply`: entry `(r, k)` of the first stage is `pick floorVal k` of line `r`.
* `stage2_apply`: entry `(r, k)` of the second is `pick floorVal k` of the two operands' lines `r` together.
* `outAt_apply`: what device `c` writes at `(r, k)`.
-/
module

public import proofs.«01_k».proof.Proof.Run
public import proofs.«01_k».proof.Proof.Extract
public import Idealize.ShloMosaic.Lib.ValueIdx
public import Idealize.ShloMosaic.Lib.ValueLayoutCasts
public import Idealize.ShloMosaic.PureOps.Ideal.Laws
public import Idealize.ShloMosaic.Lib.Pipeline.Value

@[expose] public section

noncomputable section

namespace TopK

open Cert.KernelIdeal Cert.KernelIdeal.Gen
open Idealize.ShloMosaic Idealize.ShloMosaic.TcCoe Idealize.ShloMosaic.ValueIdx

/-- The floor: the value of the least finite binary32 word. -/
def floorVal : EReal := Ideal.ofBits .f32 0xFF7FFFFF#32

variable {n : ℕ}

/-- A block of `256` lines of `n` entries, and a column of `256`. -/
abbrev Lines (n : ℕ) : Shape := ⟨2, ![256, n]⟩

/-- The values standing in line `r`. -/
def lineSet (v : FVec Ideal (Lines n) .f32) (r : Fin 256) : Finset EReal := Finset.univ.image fun j : Fin n => v (ix2 r j)

theorem mem_lineSet (v : FVec Ideal (Lines n) .f32) (r : Fin 256) (j : Fin n) : v (ix2 r j) ∈ lineSet v r :=
  Finset.mem_image_of_mem (fun j : Fin n => v (ix2 r j)) (Finset.mem_univ j)

/-! ## One round -/

/-- Every line's maximum, as the kernel writes it. -/
def colMax (hR : (Lines n).Reduces [1] ⟨1, ![256]⟩) (hC : (⟨1, ![256]⟩ : Shape).ShapeCasts (Lines 1))
    (v : FVec Ideal (Lines n) .f32) : FVec Ideal (Lines 1) .f32 :=
  shapeCast (Lines 1) (multiReduction .maximumf [1] ⟨1, ![256]⟩ v 0xFF800000#32 hR (.inl rfl) rfl) hC

/-- Every entry equal to its line's maximum replaced by the floor, as the kernel writes it. -/
def wipe (hR : (Lines n).Reduces [1] ⟨1, ![256]⟩) (hC : (⟨1, ![256]⟩ : Shape).ShapeCasts (Lines 1))
    (hB : (Lines 1).Broadcasts (Lines n)) (v : FVec Ideal (Lines n) .f32) : FVec Ideal (Lines n) .f32 :=
  select (cmpf .oeq v (broadcastTo (Lines n) (colMax hR hC v) hB))
    (broadcast (Lines n) (Scalar.ofBits (F := Ideal) .f32 0xFF7FFFFF#32)) v

section
variable (hR : (Lines n).Reduces [1] ⟨1, ![256]⟩) (hC : (⟨1, ![256]⟩ : Shape).ShapeCasts (Lines 1))
  (hB : (Lines 1).Broadcasts (Lines n))

theorem lift_line (r : Fin 256) (j : Fin n) : hR.lift (ix1 r) j = (ix2 r j : (Lines n).Idx) := by
  funext a
  match a with
  | ⟨0, _⟩ => rfl
  | ⟨1, _⟩ => rfl

theorem colMax_apply (v : FVec Ideal (Lines n) .f32) (r : Fin 256) (u : Fin 1) :
    colMax hR hC v (ix2 r u) = best (lineSet v r) := by
  have e : (v ∘ hR.lift (ix1 r)) = fun j : Fin n => v (ix2 r j) := funext fun j => congrArg v (lift_line hR r j)
  have hb : (FloatOps.ofBits .f32 0xFF800000#32 : Ideal .f32) = (⊥ : EReal) := by
    show Ideal.ofBits .f32 0xFF800000#32 = ⊥
    simp [Ideal.ofBits, Ideal.ieee]
  refine (shapeCast_a_a1_apply _ hC r u).trans
    ((Ideal.multiReduction_maximumf_single v 0xFF800000#32 hR (.inl rfl) rfl (ix1 r)).trans ?_)
  rw [hb]
  show Finset.fold max ⊥ (v ∘ hR.lift (ix1 r)) (Finset.univ : Finset (Fin n)) = _
  rw [e, best, lineSet, Finset.sup_image]
  rfl

theorem wipe_apply (v : FVec Ideal (Lines n) .f32) (r : Fin 256) (j : Fin n) :
    wipe hR hC hB v (ix2 r j) = if v (ix2 r j) = best (lineSet v r) then floorVal else v (ix2 r j) := by
  have hb : broadcastTo (Lines n) (colMax hR hC v) hB (ix2 r j) = best (lineSet v r) := by
    rw [broadcastTo_apply _ hB (ix2 r j) (ix2 r (0 : Fin 1)) (fun a => by
      match a with
      | ⟨0, _⟩ => rfl
      | ⟨1, _⟩ => rfl), colMax_apply]
  unfold wipe
  rw [select_apply, cmpf_apply, hb, broadcast_apply]
  show Scalar.select (Ideal.cmp .oeq (v (ix2 r j)) (best (lineSet v r))) floorVal (v (ix2 r j)) = _
  by_cases h : v (ix2 r j) = best (lineSet v r)
  · have e : Ideal.cmp .oeq (v (ix2 r j)) (best (lineSet v r)) = 1#1 := by simp [Ideal.cmp, h]
    rw [if_pos h, e, select_one]
  · have e : Ideal.cmp .oeq (v (ix2 r j)) (best (lineSet v r)) = 0#1 := by simp [Ideal.cmp, h]
    rw [if_neg h, e, select_zero]

/-- One round, seen on the set of a line's values. -/
theorem lineSet_wipe (hn : 0 < n) (v : FVec Ideal (Lines n) .f32) (r : Fin 256) :
    lineSet (wipe hR hC hB v) r = clear floorVal (lineSet v r) := by
  ext y
  simp only [clear, Finset.mem_insert, Finset.mem_erase]
  constructor
  · intro h
    obtain ⟨j, _, rfl⟩ := Finset.mem_image.mp h
    show wipe hR hC hB v (ix2 r j) = _ ∨ _
    rw [wipe_apply]
    by_cases hj : v (ix2 r j) = best (lineSet v r)
    · rw [if_pos hj]; exact Or.inl rfl
    · rw [if_neg hj]; exact Or.inr ⟨hj, mem_lineSet v r j⟩
  · rintro (rfl | ⟨h1, h2⟩)
    · obtain ⟨j, _, hj⟩ := Finset.mem_image.mp (best_mem ⟨_, mem_lineSet v r ⟨0, hn⟩⟩)
      have e := wipe_apply hR hC hB v r j
      rw [if_pos (show v (ix2 r j) = best (lineSet v r) from hj)] at e
      rw [← e]; exact mem_lineSet _ r j
    · obtain ⟨j, _, rfl⟩ := Finset.mem_image.mp h2
      have e := wipe_apply hR hC hB v r j
      rw [if_neg h1] at e
      rw [← e]; exact mem_lineSet _ r j

/-- A block after `k` rounds. -/
def rounds : ℕ → FVec Ideal (Lines n) .f32 → FVec Ideal (Lines n) .f32
  | 0, v => v
  | k + 1, v => rounds k (wipe hR hC hB v)

/-- Round `k` takes, of every line, what `pick` says. -/
theorem colMax_rounds (hn : 0 < n) (k : ℕ) : ∀ (v : FVec Ideal (Lines n) .f32) (r : Fin 256) (u : Fin 1),
    colMax hR hC (rounds hR hC hB k v) (ix2 r u) = pick floorVal k (lineSet v r) := by
  induction k with
  | zero => exact fun v r u => colMax_apply hR hC v r u
  | succ k ih => exact fun v r u => (ih _ r u).trans (by rw [lineSet_wipe hR hC hB hn]; rfl)

end

/-- The eight columns side by side. -/
def eight (hR : (Lines n).Reduces [1] ⟨1, ![256]⟩) (hC : (⟨1, ![256]⟩ : Shape).ShapeCasts (Lines 1))
    (hB : (Lines 1).Broadcasts (Lines n)) (v : FVec Ideal (Lines n) .f32) (k : Fin 8) : FVec Ideal (Lines 1) .f32 :=
  colMax hR hC (rounds hR hC hB k.val v)

theorem eight_apply (hR : (Lines n).Reduces [1] ⟨1, ![256]⟩) (hC : (⟨1, ![256]⟩ : Shape).ShapeCasts (Lines 1))
    (hB : (Lines 1).Broadcasts (Lines n)) (hn : 0 < n) (v : FVec Ideal (Lines n) .f32)
    (h : Shape.Concatenates ((List.ofFn fun k : Fin 8 =>
      (⟨Lines 1, eight hR hC hB v k⟩ : (s : Shape) × (s.Idx → Ideal .f32))).map (·.1)) (Lines 8) 1) (r : Fin 256) (k : Fin 8) :
    concatenate (Lines 8) 1 (List.ofFn fun k : Fin 8 =>
      (⟨Lines 1, eight hR hC hB v k⟩ : (s : Shape) × (s.Idx → Ideal .f32))) h (ix2 r k) = pick floorVal k.val (lineSet v r) := by
  refine (concatenate_ofFn_unit_apply (s₁ := Lines 1) (t := Lines 8) 1 (eight hR hC hB v) h rfl rfl (ix2 r k) k rfl
    (ix2 r (0 : Fin 1)) (fun b hb => ?_)).trans (colMax_rounds hR hC hB hn k.val v r 0)
  match b with
  | ⟨0, _⟩ => rfl
  | ⟨1, _⟩ => exact absurd rfl hb

/-! ## The two stages -/

/-- The first stage's text is the eight columns of the block. -/
theorem stage1_eq (x : Vec Ideal S256x1024 .f32) : stage1 (F := Ideal) x =
    concatenate (Lines 8) 1 (List.ofFn fun k : Fin 8 => (⟨Lines 1, eight reduces_S256x1024_S256 shapeCasts_S256_S256x1
      broadcasts_S256x1_S256x1024 (k0_pay2 (F := Ideal) x) k⟩ : (s : Shape) × (s.Idx → Ideal .f32)))
      concatenates_S256x1_S256x1_S256x1_S256x1_S256x1_S256x1_S256x1_S256x1_S256x8_d1 := rfl

theorem stage1_apply (x : Vec Ideal S256x1024 .f32) (r : Fin 256) (k : Fin 8) :
    stage1 (F := Ideal) x (ix2 r k) = pick floorVal k.val (lineSet (n := 1024) x r) := by
  have e : k0_pay2 (F := Ideal) x = x := shapeCast_self x _
  exact (congrFun (stage1_eq x) (ix2 r k)).trans ((eight_apply reduces_S256x1024_S256 shapeCasts_S256_S256x1
    broadcasts_S256x1_S256x1024 (by decide) (k0_pay2 (F := Ideal) x) _ r k).trans (by rw [e]))

theorem stage1s_eq (x : Vec Ideal S256x1024 .f32) : stage1s (F := Ideal) x = stage1 (F := Ideal) x :=
  shapeCast_self (stage1 (F := Ideal) x) shapeCasts_S256x8_S256x8

/-- The second stage's text is the eight columns of its two operands side by side. -/
theorem stage2_eq (a : FVec Ideal S256x8 .f32) (b : Vec Ideal S256x8 .f32) : stage2 (F := Ideal) a b =
    concatenate (Lines 8) 1 (List.ofFn fun k : Fin 8 => (⟨Lines 1, eight reduces_S256x16_S256 shapeCasts_S256_S256x1
      broadcasts_S256x1_S256x16 (k0_pay11 (F := Ideal) a b) k⟩ : (s : Shape) × (s.Idx → Ideal .f32)))
      concatenates_S256x1_S256x1_S256x1_S256x1_S256x1_S256x1_S256x1_S256x1_S256x8_d1 := rfl

/-- A line of the two operands side by side holds the values of both lines. -/
theorem lineSet_pair (a : FVec Ideal S256x8 .f32) (b : Vec Ideal S256x8 .f32) (r : Fin 256) :
    lineSet (n := 16) (k0_pay11 (F := Ideal) a b) r = lineSet (n := 8) a r ∪ lineSet (n := 8) b r := by
  have hl : ∀ j : Fin 8, k0_pay11 (F := Ideal) a b (ix2 r (⟨j.val, by omega⟩ : Fin 16)) = a (ix2 r j) := fun j =>
    concatenate_pair_apply_left (1 : Fin S256x16.rank) a b concatenates_S256x8_S256x8_S256x16_d1
      (ix2 r (⟨j.val, by omega⟩ : Fin 16) : (Lines 16).Idx) rfl (ix2 r j) (fun d => by
      match d with
      | ⟨0, _⟩ => rfl
      | ⟨1, _⟩ => rfl)
  have hr : ∀ j : Fin 8, k0_pay11 (F := Ideal) a b (ix2 r (⟨j.val + 8, by omega⟩ : Fin 16)) = b (ix2 r j) := fun j =>
    concatenate_pair_apply_right (1 : Fin S256x16.rank) a b concatenates_S256x8_S256x8_S256x16_d1
      (ix2 r (⟨j.val + 8, by omega⟩ : Fin 16) : (Lines 16).Idx) rfl rfl (ix2 r j) (fun d hd => by
      match d with
      | ⟨0, _⟩ => rfl
      | ⟨1, _⟩ => exact absurd rfl hd) rfl
  ext y
  rw [Finset.mem_union]
  constructor
  · intro h
    obtain ⟨j, _, rfl⟩ := Finset.mem_image.mp h
    by_cases hj : j.val < 8
    · refine Or.inl ?_
      have e := hl ⟨j.val, hj⟩
      show k0_pay11 (F := Ideal) a b (ix2 r j) ∈ _
      rw [show (ix2 r j : (Lines 16).Idx) = ix2 r (⟨j.val, by omega⟩ : Fin 16) from rfl, e]
      exact mem_lineSet (n := 8) a r _
    · refine Or.inr ?_
      have e := hr ⟨j.val - 8, by omega⟩
      show k0_pay11 (F := Ideal) a b (ix2 r j) ∈ _
      rw [show (j : Fin 16) = (⟨j.val - 8 + 8, by omega⟩ : Fin 16) from Fin.ext (by show j.val = j.val - 8 + 8; omega), e]
      exact mem_lineSet (n := 8) b r _
  · rintro (h | h)
    · obtain ⟨j, _, rfl⟩ := Finset.mem_image.mp h
      show a (ix2 r j) ∈ _
      rw [← hl j]; exact mem_lineSet (n := 16) _ r _
    · obtain ⟨j, _, rfl⟩ := Finset.mem_image.mp h
      show b (ix2 r j) ∈ _
      rw [← hr j]; exact mem_lineSet (n := 16) _ r _

theorem stage2_apply (a : FVec Ideal S256x8 .f32) (b : Vec Ideal S256x8 .f32) (r : Fin 256) (k : Fin 8) :
    stage2 (F := Ideal) a b (ix2 r k) = pick floorVal k.val (lineSet (n := 8) a r ∪ lineSet (n := 8) b r) := by
  exact (congrFun (stage2_eq a b) (ix2 r k)).trans ((eight_apply reduces_S256x16_S256 shapeCasts_S256_S256x1
    broadcasts_S256x1_S256x16 (by decide) (k0_pay11 (F := Ideal) a b) _ r k).trans (by rw [lineSet_pair]))

/-- The values in a line of the first stage's result are what the first eight rounds take. -/
theorem lineSet_stage1 (x : Vec Ideal S256x1024 .f32) (r : Fin 256) :
    lineSet (n := 8) (stage1 (F := Ideal) x) r = picks floorVal 8 (lineSet (n := 1024) x r) := by
  ext y
  rw [mem_picks]
  constructor
  · intro h
    obtain ⟨j, _, rfl⟩ := Finset.mem_image.mp h
    exact ⟨j.val, j.isLt, (stage1_apply x r j).symm⟩
  · rintro ⟨k, hk, rfl⟩
    rw [← stage1_apply x r ⟨k, hk⟩]
    exact mem_lineSet (n := 8) _ r _

/-- What device `c` writes at `(r, k)`: round `k` on the first eight of its own line and of its partner's. -/
theorem outAt_apply (m : (ℓ : Loc nD τ sig) → Buf (Elt Ideal) ℓ) (ρ : Dev nD → PrngReg) (c : Dev nD) (r : Fin 256) (k : Fin 8) :
    outAt (F := Ideal) m ρ c (ix2 r k) = pick floorVal k.val
      (picks floorVal 8 (lineSet (n := 1024) (xblk (F := Ideal) m ρ c) r)
        ∪ picks floorVal 8 (lineSet (n := 1024) (xblk (F := Ideal) m ρ (peer c)) r)) := by
  unfold outAt
  rw [stage1s_eq]
  exact (stage2_apply _ _ r k).trans (by rw [lineSet_stage1, lineSet_stage1])

end TopK

end
-- ==== Proof.Sorted.lean ====
/-
# What the reference computes on a line

The reference sorts the positions of a line by the negated values, keeps the first eight positions and reads the line
there. This module reads its text at the extended reals: entry `(r, k)` is `x (r, order x r k)` (`topEight_apply`),
where `order x r` is a rearrangement of the line's positions (`order_surjective`) that puts the values in descending
order (`order_descends`). The comparator's handling of zeros and invalid numbers, the wrapping of negative positions
and the filling of positions out of range change nothing.
-/
module

public import proofs.«01_k».proof.Proof.Gen.On_entries_without_ties
public import Idealize.ShloMosaic.Lib.SortFacts
public import Idealize.ShloMosaic.Lib.ReduceAll
public import Idealize.ShloMosaic.Lib.ValueIdx
public import Idealize.ShloMosaic.Lib.StableHlo.Predicate
public import Idealize.ShloMosaic.Lib.Pipeline.Value

@[expose] public section

noncomputable section

namespace TopK

open Cert.On_entries_without_ties Cert.On_entries_without_ties.Facts
open Idealize.ShloMosaic Idealize.ShloMosaic.ValueIdx Idealize.ShloMosaic.StableHlo.Predicate

variable (x : FVec Ideal S256x2048 .f32)

/-! ## The comparator -/

/-- The comparator is "less" on the keys: replacing a zero by zero changes nothing, and no value differs from itself. -/
theorem comparator_eq (l r : Ideal .f32 × BitVec 32) :
    comparator_f32_i32_d1 (F := Ideal) l r = BitVec.ofBool (decide ((l.1 : EReal) < r.1)) := by
  have key : ∀ a : EReal, Scalar.select (Ideal.cmp .une a a) (Ideal.ofBits .f32 0x7FC00000#32)
      (Scalar.select (Ideal.cmp .oeq a (Ideal.ofBits .f32 0x00000000#32)) (Ideal.ofBits .f32 0x00000000#32) a) = a := by
    intro a
    have e0 : Ideal.cmp .une a a = 0#1 := by simp [Ideal.cmp]
    rw [e0, select_zero]
    by_cases h : a = Ideal.ofBits .f32 0x00000000#32
    · have e : Ideal.cmp .oeq a (Ideal.ofBits .f32 0x00000000#32) = 1#1 := by simp [Ideal.cmp, ← h]
      rw [e, select_one, h]
    · have e : Ideal.cmp .oeq a (Ideal.ofBits .f32 0x00000000#32) = 0#1 := by simp [Ideal.cmp, h]
      rw [e, select_zero]
  show Ideal.cmpTotal .lt
    (Scalar.select (Ideal.cmp .une (l.1 : EReal) l.1) (Ideal.ofBits .f32 0x7FC00000#32)
      (Scalar.select (Ideal.cmp .oeq (l.1 : EReal) (Ideal.ofBits .f32 0x00000000#32)) (Ideal.ofBits .f32 0x00000000#32) l.1))
    (Scalar.select (Ideal.cmp .une (r.1 : EReal) r.1) (Ideal.ofBits .f32 0x7FC00000#32)
      (Scalar.select (Ideal.cmp .oeq (r.1 : EReal) (Ideal.ofBits .f32 0x00000000#32)) (Ideal.ofBits .f32 0x00000000#32) r.1)) = _
  rw [key, key]
  rfl

/-! ## The order of a line -/

/-- Position `a` of line `r` goes before position `b`: its value is larger. -/
def before (r : Fin 256) (a b : Fin 2048) : Bool := decide ((x (ix2 r b) : EReal) < x (ix2 r a))

/-- The position whose value the sort puts at place `k` of line `r`. -/
def order (r : Fin 256) (k : Fin 2048) : Fin 2048 := sortedFrom (before x r) k

theorem order_surjective (r : Fin 256) : Function.Surjective (order x r) := sortedFrom_surjective _

theorem order_descends (r : Fin 256) (i j : Fin 2048) (h : i < j) :
    (x (ix2 r (order x r j)) : EReal) ≤ x (ix2 r (order x r i)) := by
  have := sortedFrom_noInversion (before x r) (before x r)
    (fun a b h => decide_eq_false (not_lt.mpr (of_decide_eq_true h).le)) (fun _ _ h => h)
    (fun a b c hab hbc => decide_eq_false (not_lt.mpr
      ((not_lt.mp (of_decide_eq_false hab)).trans (not_lt.mp (of_decide_eq_false hbc))))) i j h
  exact not_lt.mp (of_decide_eq_false this)

/-- The sorted positions, as words. -/
theorem argsort_apply (r : Fin 256) (k : Fin 2048) :
    fn_argsort (F := Ideal) (Host.negf x) (ix2 r k) = BitVec.ofNat 32 (order x r k).val := by
  have along : ∀ a : Fin 2048, (Shape.Idx.along (s := S256x2048) (ix2 r k) (1 : Fin 2) a) = ix2 r a := by
    intro a; funext d
    match d with
    | ⟨0, _⟩ => rfl
    | ⟨1, _⟩ => rfl
  let cmp' : Fin 2048 → Fin 2048 → Bool := fun a b => comparator_f32_i32_d1 (F := Ideal)
    (Host.negf x (Shape.Idx.along (s := S256x2048) (ix2 r k) (1 : Fin 2) a),
      iotaInDim S256x2048 32 1 (Shape.Idx.along (s := S256x2048) (ix2 r k) (1 : Fin 2) a))
    (Host.negf x (Shape.Idx.along (s := S256x2048) (ix2 r k) (1 : Fin 2) b),
      iotaInDim S256x2048 32 1 (Shape.Idx.along (s := S256x2048) (ix2 r k) (1 : Fin 2) b)) == 1#1
  have hb : cmp' = before x r := by
    funext a b
    show (comparator_f32_i32_d1 (F := Ideal) _ _ == 1#1) = _
    rw [along, along, comparator_eq]
    show (BitVec.ofBool (decide ((-(x (ix2 r a)) : EReal) < -(x (ix2 r b)))) == 1#1) = decide ((x (ix2 r b) : EReal) < x (ix2 r a))
    by_cases h : (x (ix2 r b) : EReal) < x (ix2 r a)
    · rw [decide_eq_true h, decide_eq_true (EReal.neg_lt_neg_iff.mpr h)]; rfl
    · rw [decide_eq_false h, decide_eq_false (fun h' => h (EReal.neg_lt_neg_iff.mp h'))]; rfl
  have e : fn_argsort (F := Ideal) (Host.negf x) (ix2 r k) = iotaInDim S256x2048 32 1
      (Shape.Idx.along (s := S256x2048) (ix2 r k) (1 : Fin 2) (sortedFrom cmp' k)) := rfl
  rw [hb] at e
  have e2 : iotaInDim S256x2048 32 1 (Shape.Idx.along (s := S256x2048) (ix2 r k) (1 : Fin 2) (order x r k))
      = iotaInDim S256x2048 32 1 (ix2 r (order x r k)) := congrArg (iotaInDim S256x2048 32 1) (along (order x r k))
  rw [e]
  refine Eq.trans ?_ (e2.trans ?_)
  · rw [order]; exact Eq.refl _
  · rfl

/-! ## Reading the line at the sorted positions -/

/-- The reference's array. -/
def topEight : FVec Ideal S256x8 .f32 :=
  fn_take_along_axis (F := Ideal) x (extractStridedSlice S256x8 ![0, 0] (fn_argsort (F := Ideal) (Host.negf x)) slices_S256x2048_S256x8_0_0)

/-- Reading one entry of every line at a given position within it: result entry `(r, k)` is the operand's at line `r`,
    at the position the index array gives for `(r, k)`, when that lies in the line. -/
theorem gather_line (idx : IVec S256x8x1 32) (r : Fin 256) (k : Fin 8) (p : Fin 2048)
    (hp : (idx (ix3 r k (0 : Fin 1))).toInt.toNat = p.val) :
    Host.gather gather_S256x2048_S256x8x1_S256x8_n_1_0_0_1_2_11 x idx (ix2 r k) = x (ix2 r p) := by
  let D : GatherDims S256x2048 S256x8x1 S256x8 := gather_S256x2048_S256x8x1_S256x8_n_1_0_0_1_2_11
  unfold Host.gather
  congr 1
  funext a
  refine Fin.ext ?_
  show D.start (ix2 r k) idx a + D.batchCoord (ix2 r k) a + D.offCoord (ix2 r k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ D.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl)]
    have hsi : D.siIdx (ix2 r k) ⟨List.idxOf (1 : Fin 2) D.startIndexMap,
        List.idxOf_lt_length_iff.2 (List.mem_singleton.mpr rfl)⟩ = ix3 r k (0 : Fin 1) := by
      funext b; refine Fin.ext ?_
      match b with
      | ⟨0, _⟩ => rfl
      | ⟨1, _⟩ => rfl
      | ⟨2, _⟩ => rfl
    rw [hsi, hp]
    show min p.val (2048 - 1) = p.val
    have := p.isLt
    omega

/-- A word of a position of the line, as a number and as a signed number. -/
theorem pos_toNat (p : Fin 2048) : (BitVec.ofNat 32 p.val).toNat = p.val := by
  rw [BitVec.toNat_ofNat]; exact Nat.mod_eq_of_lt (by have := p.isLt; omega)

/-- Reading a line at positions that lie in it: the wrap and the fill do nothing. -/
theorem take_apply (idx : IVec S256x8 32) (pos : Fin 256 → Fin 8 → Fin 2048)
    (hidx : ∀ r k, idx (ix2 r k) = BitVec.ofNat 32 (pos r k).val) (r : Fin 256) (k : Fin 8) :
    fn_take_along_axis (F := Ideal) x idx (ix2 r k) = x (ix2 r (pos r k)) := by
  -- the wrap of negative positions
  let w4 : IVec S256x8 32 := select (cmpi .slt idx (broadcastInDim S256x8 ![] bcast_S_S256x8 (constantI S_ 32 0#32)))
    (addi idx (broadcastInDim S256x8 ![] bcast_S_S256x8 (constantI S_ 32 2048#32))) idx
  have h4 : ∀ r k, w4 (ix2 r k) = BitVec.ofNat 32 (pos r k).val := by
    intro r k
    show Scalar.select (IntOp.cmpi .slt (idx (ix2 r k)) 0#32) (idx (ix2 r k) + 2048#32) (idx (ix2 r k)) = _
    rw [hidx]
    have e : IntOp.cmpi .slt (BitVec.ofNat 32 (pos r k).val) 0#32 = 0#1 := eq_zero_of_ne_one fun h => by
      have := (slt_iff_toNat (by rw [pos_toNat]; have := (pos r k).isLt; omega) (by decide)).mp h
      exact absurd this (Nat.not_lt_zero _)
    rw [e, select_zero]
  -- the positions as a `256 × 8 × 1` array
  let w5 : IVec S256x8x1 32 := shapeCast S256x8x1 w4 shapeCasts_S256x8_S256x8x1
  have h5 : ∀ r k u, w5 (ix3 r k u) = BitVec.ofNat 32 (pos r k).val := by
    intro r k u
    refine (shapeCast_apply w4 shapeCasts_S256x8_S256x8x1 _ (ix2 r k) ?_).trans (h4 r k)
    have hu : u.val = 0 := by omega
    rw [Shape.rowMajor_val_two, Shape.rowMajor_val_three]
    show r.val * 8 + k.val = (r.val * 8 + k.val) * 1 + u.val
    omega
  -- every position is in range
  let w11 : IVec S256x8x1 1 := andi (cmpi .sge w5 (broadcastInDim S256x8x1 ![] bcast_S_S256x8x1 (constantI S_ 32 0#32)))
    (cmpi .sle w5 (broadcastInDim S256x8x1 ![0, 1, 2] bcast_S1x1x1_S256x8x1_0_1_2
      (broadcastInDim S1x1x1 ![2] bcast_S1_S1x1x1_2 (constantI S1 32 2047#32))))
  have h11 : ∀ i, w11 i = 1#1 := by
    intro i
    rw [eq_ix3 i]
    show IntOp.andi (IntOp.cmpi .sge (w5 (ix3 (i 0) (i 1) (i 2))) 0#32) (IntOp.cmpi .sle (w5 (ix3 (i 0) (i 1) (i 2))) 2047#32) = 1#1
    have e : w5 (ix3 (i 0) (i 1) (i 2)) = BitVec.ofNat 32 (pos (i 0) (i 1)).val := h5 _ _ _
    rw [e]
    have hlt := (pos (i 0) (i 1)).isLt
    rw [(sge_iff_toNat (by rw [pos_toNat]; omega) (by decide)).mpr (Nat.zero_le _),
      (sle_iff_toNat (by rw [pos_toNat]; omega) (by decide)).mpr (by rw [pos_toNat]; show _ ≤ 2047; omega)]
    rfl
  show Scalar.select (Host.reduce IntOp.andi w11 (constantI S_ 1 1#1) reducesTo_S256x8x1_S256x8_d2 h_S_ (ix2 r k))
    (Host.gather gather_S256x2048_S256x8x1_S256x8_n_1_0_0_1_2_11 x w5 (ix2 r k)) _ = _
  rw [Host.reduce_andi_one w11 _ _ _ _ rfl h11, select_one]
  refine gather_line x w5 r k (pos r k) ?_
  rw [h5]
  have hlt := (pos r k).isLt
  rw [BitVec.toInt_eq_toNat_of_lt (by rw [pos_toNat]; omega), pos_toNat]
  rfl

theorem topEight_apply (r : Fin 256) (k : Fin 8) :
    topEight x (ix2 r k) = x (ix2 r (order x r ⟨k.val, by omega⟩)) := by
  unfold topEight
  refine take_apply x _ (fun r k => order x r ⟨k.val, by omega⟩) (fun r k => ?_) r k
  refine (congrArg (fn_argsort (F := Ideal) (Host.negf x)) (?_ : _ = ix2 r (⟨k.val, by omega⟩ : Fin 2048))).trans
    (argsort_apply x r ⟨k.val, by omega⟩)
  funext a
  refine Fin.ext ?_
  match a with
  | ⟨0, _⟩ => exact Nat.zero_add _
  | ⟨1, _⟩ => exact Nat.zero_add _

end TopK

end
-- ==== Proof.Value.lean ====
/-
# The kernel's result is the reference's

* `mask_iff`: what it says that the mask selects entry `(r, k)` — the entry is above the floor and the sorted line goes
  strictly down at every step before it, or the entry is the floor.
* `lines_meet`: a device's line and its partner's are the two halves of the whole array's line.
* `outAt_iff`: at an entry a device writes what the reference has there just when the mask selects the entry.
-/
module

public import proofs.«01_k».proof.Proof.KernelValue
public import proofs.«01_k».proof.Proof.Sorted
public import Idealize.ShloMosaic.Lib.Layout

@[expose] public section

noncomputable section

namespace TopK

open Idealize.ShloMosaic Idealize.ShloMosaic.TcCoe Idealize.ShloMosaic.ValueIdx Idealize.ShloMosaic.StableHlo.Predicate

/-! ## The mask -/

section Mask
open Cert.On_entries_without_ties Cert.On_entries_without_ties.Facts

variable (x : FVec Ideal S256x2048 .f32)

theorem cmp_ogt {a b : EReal} : Ideal.cmp .ogt a b = 1#1 ↔ b < a := by
  by_cases h : b < a <;> simp [Ideal.cmp, h]

theorem cmp_oeq {a b : EReal} : Ideal.cmp .oeq a b = 1#1 ↔ a = b := by
  by_cases h : a = b <;> simp [Ideal.cmp, h]

theorem or_iff {a b : BitVec 1} : IntOp.ori a b = 1#1 ↔ a = 1#1 ∨ b = 1#1 := by
  revert a b; decide

theorem and_iff {a b : BitVec 1} : IntOp.andi a b = 1#1 ↔ a = 1#1 ∧ b = 1#1 := by
  revert a b; decide

/-- Whether step `i` of each sorted line goes strictly down, as the mask's text has it. -/
def stepBits : IVec S256x7 1 :=
  cmpf .ogt (extractStridedSlice S256x7 ![0, 0] (topEight x) slices_S256x8_S256x7_0_0)
    (extractStridedSlice S256x7 ![0, 1] (topEight x) slices_S256x8_S256x7_0_1)

theorem stepBits_iff (r : Fin 256) (i : Fin 7) : stepBits x (ix2 r i) = 1#1 ↔
    (topEight x (ix2 r (⟨i.val + 1, by omega⟩ : Fin 8)) : EReal) < topEight x (ix2 r (⟨i.val, by omega⟩ : Fin 8)) := by
  have e0 : extractStridedSlice S256x7 ![0, 0] (topEight x) slices_S256x8_S256x7_0_0 (ix2 r i)
      = topEight x (ix2 r (⟨i.val, by omega⟩ : Fin 8)) := by
    refine congrArg (topEight x) (funext fun a => Fin.ext ?_)
    match a with
    | ⟨0, _⟩ => exact Nat.zero_add _
    | ⟨1, _⟩ => exact Nat.zero_add _
  have e1 : extractStridedSlice S256x7 ![0, 1] (topEight x) slices_S256x8_S256x7_0_1 (ix2 r i)
      = topEight x (ix2 r (⟨i.val + 1, by omega⟩ : Fin 8)) := by
    refine congrArg (topEight x) (funext fun a => Fin.ext ?_)
    match a with
    | ⟨0, _⟩ => exact Nat.zero_add _
    | ⟨1, _⟩ => exact Nat.add_comm _ _
  show Ideal.cmp .ogt (extractStridedSlice S256x7 ![0, 0] (topEight x) slices_S256x8_S256x7_0_0 (ix2 r i))
      (extractStridedSlice S256x7 ![0, 1] (topEight x) slices_S256x8_S256x7_0_1 (ix2 r i)) = 1#1 ↔ _
  rw [e0, e1]
  exact cmp_ogt

/-- The box of conditions the mask takes the conjunction of: at `(r, i, k)`, step `i` goes down or `k ≤ i`. -/
def box : IVec S256x7x8 1 :=
  ori (broadcastInDim S256x7x8 ![0, 1, 2] bcast_S256x7x1_S256x7x8_0_1_2
      (broadcastInDim S256x7x1 ![0, 1] bcast_S256x7_S256x7x1_0_1 (stepBits x)))
    (cmpi .sge (iotaInDim S256x7x8 32 1) (iotaInDim S256x7x8 32 2))

theorem sge_small {a b : ℕ} (ha : a < 8) (hb : b < 8) :
    IntOp.cmpi .sge (BitVec.ofNat 32 a) (BitVec.ofNat 32 b) = 1#1 ↔ b ≤ a := by
  have en : ∀ n : ℕ, n < 8 → (BitVec.ofNat 32 n).toNat = n := fun n hn => by
    rw [BitVec.toNat_ofNat]; exact Nat.mod_eq_of_lt (by omega)
  refine (sge_iff_toNat (by rw [en _ ha]; omega) (by rw [en _ hb]; omega)).trans ?_
  rw [en _ ha, en _ hb]

theorem box_iff (r : Fin 256) (i : Fin 7) (k : Fin 8) : box x (ix3 r i k) = 1#1 ↔
    (topEight x (ix2 r (⟨i.val + 1, by omega⟩ : Fin 8)) : EReal) < topEight x (ix2 r (⟨i.val, by omega⟩ : Fin 8))
      ∨ k.val ≤ i.val := by
  have e : box x (ix3 r i k)
      = IntOp.ori (stepBits x (ix2 r i)) (IntOp.cmpi .sge (BitVec.ofNat 32 i.val) (BitVec.ofNat 32 k.val)) := by
    show IntOp.ori (stepBits x _) _ = IntOp.ori (stepBits x _) _
    congr 2
    funext a
    match a with
    | ⟨0, _⟩ => rfl
    | ⟨1, _⟩ => rfl
  rw [e, or_iff, stepBits_iff, sge_small (by omega) k.isLt]

/-- A `stablehlo.reduce` by `and` from 1 is 1 just when every element that reduces into the place is 1. -/
theorem reduce_and_iff {s t u : Shape} {axes : List (Fin s.rank)} (y : s.Idx → BitVec 1) (init : u.Idx → BitVec 1)
    (h : s.ReducesTo axes t) (hu : 0 < u.numel) (hi : init (Shape.Idx.first hu) = 1#1) (j : t.Idx) :
    Host.reduce IntOp.andi y init h hu j = 1#1 ↔ ∀ i, h.drop i = j → y i = 1#1 := by
  refine ⟨Host.reduce_andi_eq_one y init h hu j, fun hy => ?_⟩
  rw [Host.reduce_eq_foldl]
  refine IntOp.foldl_andi_one y _ _ hi fun i hm => hy i ?_
  simpa using (List.mem_filter.mp hm).2

/-- The mask's text. -/
theorem fn_eq : fn (F := Ideal) x =
    ori (andi (Host.reduce IntOp.andi (box x) (constantI S_ 1 1#1) reducesTo_S256x7x8_S256x8_d1 h_S_)
        (cmpf .ogt (topEight x) (broadcastInDim S256x8 ![] bcast_S_S256x8 (constant (F := Ideal) S_ .f32 0xFF7FFFFF#32))))
      (cmpf .oeq (topEight x) (broadcastInDim S256x8 ![] bcast_S_S256x8 (constant (F := Ideal) S_ .f32 0xFF7FFFFF#32))) := rfl

theorem mask_iff (r : Fin 256) (k : Fin 8) : fn (F := Ideal) x (ix2 r k) = 1#1 ↔
    ((floorVal < topEight x (ix2 r k)) ∧ ∀ i (hi : i < k.val),
      (topEight x (ix2 r (⟨i + 1, by omega⟩ : Fin 8)) : EReal) < topEight x (ix2 r (⟨i, by omega⟩ : Fin 8)))
    ∨ topEight x (ix2 r k) = floorVal := by
  have hdrop : ∀ (a : Fin 256) (i : Fin 7) (b : Fin 8), reducesTo_S256x7x8_S256x8_d1.drop (ix3 a i b) = ix2 a b := by
    intro a i b
    funext d
    match d with
    | ⟨0, _⟩ => rfl
    | ⟨1, _⟩ => rfl
  have hred : Host.reduce IntOp.andi (box x) (constantI S_ 1 1#1) reducesTo_S256x7x8_S256x8_d1 h_S_ (ix2 r k) = 1#1 ↔
      ∀ i (hi : i < k.val),
        (topEight x (ix2 r (⟨i + 1, by omega⟩ : Fin 8)) : EReal) < topEight x (ix2 r (⟨i, by omega⟩ : Fin 8)) := by
    refine (reduce_and_iff (box x) (constantI S_ 1 1#1) reducesTo_S256x7x8_S256x8_d1 h_S_ rfl (ix2 r k)).trans ⟨fun h i hi => ?_, fun h j hj => ?_⟩
    · exact ((box_iff x r (⟨i, by omega⟩ : Fin 7) k).mp (h _ (hdrop _ _ _))).resolve_right (not_le.mpr hi)
    · rw [eq_ix3 j] at hj ⊢
      have e := (hdrop (j 0) (j 1) (j 2)).symm.trans hj
      have e0 : j 0 = r := congrFun e (0 : Fin 2)
      have e2 : j 2 = k := congrFun e (1 : Fin 2)
      rw [e0, e2]
      refine (box_iff x r (j 1) k).mpr ?_
      by_cases hi : (j 1).val < k.val
      · exact Or.inl (h _ hi)
      · exact Or.inr (not_lt.mp hi)
  rw [fn_eq]
  refine or_iff.trans (or_congr (and_iff.trans ?_) cmp_oeq)
  exact (and_congr hred cmp_ogt).trans and_comm

end Mask

/-! ## The two halves of a line -/

/-- The mesh's placement cuts the columns in two along the first axis: device `c` holds half `c / 4`. -/
abbrev half (x : FVec Ideal (Lines 2048) .f32) (c : Fin 8) : FVec Ideal (Lines 1024) .f32 :=
  Layout.blockN ⟨2, ![256, 1024]⟩ ⟨2, ![256, 2048]⟩ (Layout.meshBlock [2, 2, 2] ![[], [0]] c) x

theorem half_apply (x : FVec Ideal (Lines 2048) .f32) (c : Fin 8) (r : Fin 256) (j : Fin 1024) :
    half x c (ix2 r j) = x (ix2 r (⟨c.val / 4 * 1024 + j.val, by omega⟩ : Fin 2048)) := by
  have hlin : ∀ c : Fin 8, Layout.meshLin [2, 2, 2] c.val [0] = c.val / 4 := by decide
  refine congrArg x (funext fun a => Fin.ext ?_)
  match a with
  | ⟨0, _⟩ => exact Nat.zero_add _
  | ⟨1, _⟩ =>
    show Layout.meshLin [2, 2, 2] c.val [0] * 1024 + j.val = c.val / 4 * 1024 + j.val
    rw [hlin]

/-- A device's line and its partner's together hold the whole line. -/
theorem lines_meet (x : FVec Ideal (Lines 2048) .f32) (c : Fin 8) (r : Fin 256) :
    lineSet (half x c) r ∪ lineSet (half x (peer c)) r = Finset.univ.image fun j : Fin 2048 => x (ix2 r j) := by
  have hp : (peer c).val / 4 = 1 - c.val / 4 := by revert c; decide
  have hc : c.val / 4 = 0 ∨ c.val / 4 = 1 := by omega
  have sub : ∀ d : Fin 8, lineSet (half x d) r ⊆ Finset.univ.image fun j : Fin 2048 => x (ix2 r j) := by
    intro d y hy
    obtain ⟨j, _, rfl⟩ := Finset.mem_image.mp hy
    show half x d (ix2 r j) ∈ _
    rw [half_apply]
    exact Finset.mem_image_of_mem (fun j : Fin 2048 => x (ix2 r j)) (Finset.mem_univ _)
  refine Finset.Subset.antisymm (Finset.union_subset (sub c) (sub (peer c))) fun y hy => ?_
  obtain ⟨j, _, rfl⟩ := Finset.mem_image.mp hy
  have hit : ∀ d : Fin 8, d.val / 4 = j.val / 1024 → x (ix2 r j) ∈ lineSet (half x d) r := by
    intro d hd
    have e := half_apply x d r (⟨j.val % 1024, by omega⟩ : Fin 1024)
    have ej : (⟨d.val / 4 * 1024 + j.val % 1024, by omega⟩ : Fin 2048) = j := Fin.ext (by
      show d.val / 4 * 1024 + j.val % 1024 = j.val
      omega)
    rw [ej] at e
    rw [← e]; exact mem_lineSet _ r _
  have hj := j.isLt
  by_cases h : c.val / 4 = j.val / 1024
  · exact Finset.mem_union_left _ (hit c h)
  · exact Finset.mem_union_right _ (hit (peer c) (by omega))

/-! ## The two results -/

/-- `pick` on what was taken from the two halves is the sorted line's entry just when the mask selects the entry. -/
theorem pick_iff (x : FVec Ideal (Lines 2048) .f32) (c : Fin 8) (r : Fin 256) (k : Fin 8) :
    pick floorVal k.val (picks floorVal 8 (lineSet (half x c) r) ∪ picks floorVal 8 (lineSet (half x (peer c)) r))
      = topEight x (ix2 r k) ↔ Cert.On_entries_without_ties.fn (F := Ideal) x (ix2 r k) = 1#1 := by
  refine Iff.trans ?_ (mask_iff x r k).symm
  simp only [topEight_apply]
  exact pick_sorted_iff (fun j : Fin 2048 => x (ix2 r j)) (order x r) (order_surjective x r)
    (order_descends x r) k.val (by omega) ⟨_, mem_lineSet _ r 0⟩ ⟨_, mem_lineSet _ r 0⟩ (by omega) k.isLt
    (lines_meet x c r)

/-- If every device starts from its half of the reference's argument, every device writes at an entry what the reference
    has there just when the mask selects the entry. -/
theorem outAt_iff (m : (ℓ : Loc Cert.KernelIdeal.nD Cert.KernelIdeal.τ Cert.KernelIdeal.sig) → Buf (Elt Ideal) ℓ)
    (ρ : Dev Cert.KernelIdeal.nD → PrngReg) (x : FVec Ideal (Lines 2048) .f32)
    (hx : ∀ c : Dev Cert.KernelIdeal.nD, m (c.tc.loc Cert.KernelIdeal.main_arg0) = half x c)
    (c : Dev Cert.KernelIdeal.nD) (i : (Lines 8).Idx) :
    outAt (F := Ideal) m ρ c i = topEight x i ↔ Cert.On_entries_without_ties.fn (F := Ideal) x i = 1#1 := by
  rw [eq_ix2 i]
  have e : ∀ d, lineSet (n := 1024) (xblk (F := Ideal) m ρ d) (i 0) = lineSet (half x d) (i 0) := fun d =>
    congrArg (fun v => lineSet (n := 1024) v (i 0)) ((xblk_eq m ρ d).trans (hx d))
  have ho := outAt_apply m ρ c (i 0) (i 1)
  rw [e, e] at ho
  exact (Iff.of_eq (congrArg (· = topEight x (ix2 (i 0) (i 1))) ho)).trans (pick_iff x c (i 0) (i 1))

end TopK

end
-- ==== Proof.lean ====
/-
# The certificate, assembled

The frames are `TopK.frame_kernel` and `TopK.frame_kernelIdeal`; the reference's frame is its generated run. The value
claim reads the kernel's run (`TopK.run_main`) and the reference's at the entries the mask selects, where they agree
by `TopK.outAt_iff`.
-/
module

public import proofs.«01_k».proof.Defs
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

/-- The reference runs, keeps its argument, and has no semaphores to leave nonzero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On every device the kernel leaves, at every entry the mask selects, what the reference leaves there. -/
theorem value : Cert.algebraic_KernelIdeal_ReferenceIdeal_on_entries_without_ties := fun m ρ m' ρ' _ hx =>
  ⟨TopK.topEight (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨fun i hi => (congrFun ((h.1 c (1 : Fin 2)).trans (TopK.finalA_out m ρ c)) i).trans
          ((TopK.outAt_iff m ρ _ hx c i).mpr hi),
        (h.1 c (0 : Fin 2)).trans (TopK.finalA_in m ρ c)⟩)
      (TopK.run_main (F := Ideal) m ρ),
    (θ_run Cert.ReferenceIdeal.defs _ _).mono
      (fun _ h => ⟨fun i _ => congrFun (h 0).1 i, (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.On_entries_without_ties.Gen.facts, TopK.frame_kernel, TopK.frame_kernelIdeal, frame_reference, trivial, value⟩

end Cert.Proof

end
